-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v165) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_named.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x1024 .bf16) (main_arg1 : IVec S72 32) (main_arg2 : IVec S1 32) (main_arg3 : FVec F S8x1024x7168 .f32) (main_arg4 : FVec F S8x3584x1024 .f32) : IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 7#32
  let main_v2 : IVec S72 32 := broadcastInDim S72 ![] bcast_S_S72 main_c_0
  let main_v3 : IVec S72 1 := cmpi .sle main_arg1 main_v2
  let main_v4 : IVec S72 1 := andi main_v1 main_v3
  main_v4
-- ==== Kernel.lean ====
abbrev S16384x1024 : Shape := ⟨2, ![16384, 1024]⟩
abbrev S2x6x1024 : Shape := ⟨3, ![2, 6, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S1x2048 : Shape := ⟨2, ![1, 2048]⟩
abbrev S128x8 : Shape := ⟨2, ![128, 8]⟩
abbrev S1x1024 : Shape := ⟨2, ![1, 1024]⟩
abbrev S256x1024 : Shape := ⟨2, ![256, 1024]⟩
abbrev S1x6x1024 : Shape := ⟨3, ![1, 6, 1024]⟩
abbrev S256x2048 : Shape := ⟨2, ![256, 2048]⟩
abbrev S6x1024 : Shape := ⟨2, ![6, 1024]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S1024x4096, .bf16⟩
  | .hbm, ⟨11, _⟩ => ⟨S1x2048, .f32⟩
  | .hbm, ⟨12, _⟩ => ⟨S1x2048, .f32⟩
  | .hbm, ⟨13, _⟩ => ⟨S128x8, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S1x2048, .f32⟩
  | .local _ .vmem, ⟨6, _⟩ => ⟨S1x2048, .f32⟩
  | .local _ .vmem, ⟨7, _⟩ => ⟨S8x128x128, .f32⟩
  | .local _ .vmem, ⟨8, _⟩ => ⟨S128x8, .f32⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x1024 : Shape := ⟨2, ![16384, 1024]⟩
abbrev S2x6x1024 : Shape := ⟨3, ![2, 6, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S2x8192x1024 : Shape := ⟨3, ![2, 8192, 1024]⟩
abbrev S2x1x1024 : Shape := ⟨3, ![2, 1, 1024]⟩
abbrev S_ : Shape := ⟨0, ![]⟩
abbrev S2x8192x4096 : Shape := ⟨3, ![2, 8192, 4096]⟩
abbrev S2x8192x2048 : Shape := ⟨3, ![2, 8192, 2048]⟩
abbrev S2x8192 : Shape := ⟨2, ![2, 8192]⟩
abbrev S2x8192x1 : Shape := ⟨3, ![2, 8192, 1]⟩
abbrev S1x1x2048 : Shape := ⟨3, ![1, 1, 2048]⟩
abbrev S2x64x128x8x256 : Shape := ⟨5, ![2, 64, 128, 8, 256]⟩
abbrev S128x128 : Shape := ⟨2, ![128, 128]⟩
abbrev S1x128x128 : Shape := ⟨3, ![1, 128, 128]⟩
abbrev S8x2x64x256x128 : Shape := ⟨5, ![8, 2, 64, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x1x1024 : Shape := ⟨3, ![1, 1, 1024]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S2x6x1024, .f32⟩
  | 2 => ⟨S1024x4096, .f32⟩
  | 3 => ⟨S2048, .f32⟩
  | 4 => ⟨S2048, .f32⟩
  | 5 => ⟨S8x128x128, .f32⟩
  | 6 => ⟨S8x128, .f32⟩
  | 7 => ⟨S2048x1024, .f32⟩
  | 8 => ⟨S1024, .f32⟩
  | 9 => ⟨S1024, .f32⟩
  | 10 => ⟨S2x8192x1024, .f32⟩
  | 11 => ⟨S2x1x1024, .f32⟩
  | 12 => ⟨S2x1x1024, .f32⟩
  | 13 => ⟨S2x1x1024, .f32⟩
  | 14 => ⟨S_, .f32⟩
  | 15 => ⟨S2x1x1024, .f32⟩
  | 16 => ⟨S2x1x1024, .f32⟩
  | 17 => ⟨S2x8192x1024, .f32⟩
  | 18 => ⟨S2x8192x1024, .f32⟩
  | 19 => ⟨S2x8192x1024, .f32⟩
  | 20 => ⟨S2x8192x1024, .f32⟩
  | 21 => ⟨S2x8192x4096, .f32⟩
  | 22 => ⟨S_, .f32⟩
  | 23 => ⟨S2x8192x4096, .f32⟩
  | 24 => ⟨S2x8192x4096, .f32⟩
  | 25 => ⟨S2x8192x4096, .f32⟩
  | 26 => ⟨S_, .f32⟩
  | 27 => ⟨S2x8192x4096, .f32⟩
  | 28 => ⟨S2x8192x4096, .f32⟩
  | 29 => ⟨S2x8192x4096, .f32⟩
  | 30 => ⟨S2x8192x4096, .f32⟩
  | 31 => ⟨S2x8192x2048, .f32⟩
  | 32 => ⟨S2x8192x2048, .f32⟩
  | 33 => ⟨S_, .f32⟩
  | 34 => ⟨S2x8192, .f32⟩
  | 35 => ⟨S2x8192x1, .f32⟩
  | 36 => ⟨S_, .f32⟩
  | 37 => ⟨S2x8192x1, .f32⟩
  | 38 => ⟨S2x8192x1, .f32⟩
  | 39 => ⟨S2x8192x2048, .f32⟩
  | 40 => ⟨S2x8192x2048, .f32⟩
  | 41 => ⟨S2x8192x2048, .f32⟩
  | 42 => ⟨S_, .f32⟩
  | 43 => ⟨S2x8192, .f32⟩
  | 44 => ⟨S2x8192x1, .f32⟩
  | 45 => ⟨S_, .f32⟩
  | 46 => ⟨S2x8192x1, .f32⟩
  | 47 => ⟨S2x8192x1, .f32⟩
  | 48 => ⟨S2x8192x2048, .f32⟩
  | 49 => ⟨S2x8192x2048, .f32⟩
  | 50 => ⟨S_, .f32⟩
  | 51 => ⟨S2x8192x1, .f32⟩
  | 52 => ⟨S2x8192x1, .f32⟩
  | 53 => ⟨S2x8192x1, .f32⟩
  | 54 => ⟨S2x8192x2048, .f32⟩
  | 55 => ⟨S2x8192x2048, .f32⟩
  | 56 => ⟨S1x1x2048, .f32⟩
  | 57 => ⟨S2x8192x2048, .f32⟩
  | 58 => ⟨S2x8192x2048, .f32⟩
  | 59 => ⟨S1x1x2048, .f32⟩
  | 60 => ⟨S2x8192x2048, .f32⟩
  | 61 => ⟨S2x8192x2048, .f32⟩
  | 62 => ⟨S2x64x128x8x256, .f32⟩
  | 63 => ⟨S_, .i1⟩
  | 64 => ⟨S128x128, .i1⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .i1⟩
  | 72 => ⟨S128x128, .i1⟩
  | 73 => ⟨S128x128, .i1⟩
  | 74 => ⟨S1x128x128, .i1⟩
  | 75 => ⟨S_, .i32⟩
  | 76 => ⟨S_, .f32⟩
  | 77 => ⟨S8x128x128, .i1⟩
  | 78 => ⟨S8x128x128, .f32⟩
  | 79 => ⟨S8x128x128, .f32⟩
  | 80 => ⟨S8x2x64x256x128, .f32⟩
  | 81 => ⟨S2x64x128x8x256, .f32⟩
  | 82 => ⟨S128x8, .f32⟩
  | 83 => ⟨S128x8x1, .f32⟩
  | 84 => ⟨S1x1x128x8x1, .f32⟩
  | 85 => ⟨S2x64x128x8x256, .f32⟩
  | 86 => ⟨S2x64x128x8x256, .f32⟩
  | 87 => ⟨S2x8192x2048, .f32⟩
  | 88 => ⟨S2x8192x2048, .f32⟩
  | 89 => ⟨S2x8192x1024, .f32⟩
  | 90 => ⟨S_, .f32⟩
  | 91 => ⟨S2x8192x1024, .f32⟩
  | 92 => ⟨S2x8192x1024, .f32⟩
  | 93 => ⟨S_, .f32⟩
  | 94 => ⟨S2x1x1024, .f32⟩
  | 95 => ⟨S2x1x1024, .f32⟩
  | 96 => ⟨S2x8192x1024, .f32⟩
  | 97 => ⟨S2x8192x1024, .f32⟩
  | 98 => ⟨S2x8192x1024, .f32⟩
  | 99 => ⟨S_, .f32⟩
  | 100 => ⟨S2x8192, .f32⟩
  | 101 => ⟨S2x8192x1, .f32⟩
  | 102 => ⟨S_, .f32⟩
  | 103 => ⟨S2x8192x1, .f32⟩
  | 104 => ⟨S2x8192x1, .f32⟩
  | 105 => ⟨S2x8192x1024, .f32⟩
  | 106 => ⟨S2x8192x1024, .f32⟩
  | 107 => ⟨S2x8192x1024, .f32⟩
  | 108 => ⟨S_, .f32⟩
  | 109 => ⟨S2x8192, .f32⟩
  | 110 => ⟨S2x8192x1, .f32⟩
  | 111 => ⟨S_, .f32⟩
  | 112 => ⟨S2x8192x1, .f32⟩
  | 113 => ⟨S2x8192x1, .f32⟩
  | 114 => ⟨S2x8192x1024, .f32⟩
  | 115 => ⟨S2x8192x1024, .f32⟩
  | 116 => ⟨S_, .f32⟩
  | 117 => ⟨S2x8192x1, .f32⟩
  | 118 => ⟨S2x8192x1, .f32⟩
  | 119 => ⟨S2x8192x1, .f32⟩
  | 120 => ⟨S2x8192x1024, .f32⟩
  | 121 => ⟨S2x8192x1024, .f32⟩
  | 122 => ⟨S1x1x1024, .f32⟩
  | 123 => ⟨S2x8192x1024, .f32⟩
  | 124 => ⟨S2x8192x1024, .f32⟩
  | 125 => ⟨S1x1x1024, .f32⟩
  | 126 => ⟨S2x8192x1024, .f32⟩
  | 127 => ⟨S2x8192x1024, .f32⟩
  | _ => ⟨S16384x1024, .f32⟩

abbrev hbmTy0_1 (i : Nat) : BufTy := match i % 128 with
  | 0 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c : Ref sig .tc := ⟨.hbm, 63, rfl⟩
abbrev main_v45 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_cst_9 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Kernel2.lean ====
abbrev S16384x1024 : Shape := ⟨2, ![16384, 1024]⟩
abbrev S2x6x1024 : Shape := ⟨3, ![2, 6, 1024]⟩
abbrev S1024x7168 : Shape := ⟨2, ![1024, 7168]⟩
abbrev S3584x1024 : Shape := ⟨2, ![3584, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S1024x512 : Shape := ⟨2, ![1024, 512]⟩
abbrev S6x1024 : Shape := ⟨2, ![6, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x7168, .f32⟩
  | .hbm, ⟨3, _⟩ => ⟨S3584x1024, .f32⟩
  | .hbm, ⟨4, _⟩ => ⟨S1024, .f32⟩
  | .hbm, ⟨5, _⟩ => ⟨S1024, .f32⟩
  | .hbm, ⟨6, _⟩ => ⟨S1024x7168, .bf16⟩
  | .hbm, ⟨7, _⟩ => ⟨S1024x7168, .bf16⟩
  | .hbm, ⟨8, _⟩ => ⟨S3584x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 7], ![false, false]⟩

def k0_cond4 (i : grid0.Coords) : BitVec 1 :=
  let arg1 : BitVec 32 := BitVec.ofNat 32 (i 1).val
  let c6_i32 : BitVec 32 := 6#32
  let v27 : BitVec 1 := Scalar.cmpi .eq arg1 c6_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x1024 : Shape := ⟨2, ![16384, 1024]⟩
abbrev S2x6x1024 : Shape := ⟨3, ![2, 6, 1024]⟩
abbrev S1024x7168 : Shape := ⟨2, ![1024, 7168]⟩
abbrev S3584x1024 : Shape := ⟨2, ![3584, 1024]⟩
abbrev S1024 : Shape := ⟨1, ![1024]⟩
abbrev S2x8192x1024 : Shape := ⟨3, ![2, 8192, 1024]⟩
abbrev S2x1x1024 : Shape := ⟨3, ![2, 1, 1024]⟩
abbrev S_ : Shape := ⟨0, ![]⟩
abbrev S2x8192x7168 : Shape := ⟨3, ![2, 8192, 7168]⟩
abbrev S2x8192x3584 : Shape := ⟨3, ![2, 8192, 3584]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x7168, .f32⟩
  | .hbm, ⟨3, _⟩ => ⟨S3584x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x7168, .f32⟩
  | .hbm, ⟨18, _⟩ => ⟨S2x8192x3584, .f32⟩
  | .hbm, ⟨19, _⟩ => ⟨S2x8192x3584, .f32⟩
  | .hbm, ⟨20, _⟩ => ⟨S2x8192x3584, .f32⟩
  | .hbm, ⟨21, _⟩ => ⟨S2x8192x3584, .f32⟩
  | .hbm, ⟨22, _⟩ => ⟨S_, .f32⟩
  | .hbm, ⟨23, _⟩ => ⟨S2x8192x3584, .f32⟩
  | .hbm, ⟨24, _⟩ => ⟨S2x8192x3584, .f32⟩
  | .hbm, ⟨25, _⟩ => ⟨S_, .f32⟩
  | .hbm, ⟨26, _⟩ => ⟨S2x8192x3584, .f32⟩
  | .hbm, ⟨27, _⟩ => ⟨S2x8192x3584, .f32⟩
  | .hbm, ⟨28, _⟩ => ⟨S2x8192x3584, .f32⟩
  | .hbm, ⟨29, _⟩ => ⟨S2x8192x3584, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel3.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 6
  | .vmem => 11
  | .smem => 2
  | _ => 0

abbrev bufTy : (tb : Table) → Fin (tcTables nBuf tb) → BufTy
  | .hbm, ⟨0, _⟩ => ⟨S36864x1024, .bf16⟩
  | .hbm, ⟨1, _⟩ => ⟨S8x1024x7168, .f32⟩
  | .hbm, ⟨2, _⟩ => ⟨S8x3584x1024, .f32⟩
  | .hbm, ⟨3, _⟩ => ⟨S8x1024x7168, .bf16⟩
  | .hbm, ⟨4, _⟩ => ⟨S8x3584x1024, .bf16⟩
  | .hbm, ⟨5, _⟩ => ⟨S36864x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v4 : BitVec 1 := Scalar.cmpi .eq arg1 c6_i32
  let v5 : BitVec 1 := Scalar.andi v1 v4
  let v6 : BitVec 32 := Scalar.extui v5
  let c0_i32_0 : BitVec 32 := 0#32
  let v7 : BitVec 1 := Scalar.cmpi .ne v6 c0_i32_0
  v7

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let arg1 : BitVec 32 := BitVec.ofNat 32 (i 1).val
  let c6_i32_1 : BitVec 32 := 6#32
  let v9 : BitVec 1 := Scalar.cmpi .eq arg1 c6_i32_1
  let v10 : BitVec 1 := Scalar.andi v8 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S72x512x1024 : Shape := ⟨3, ![72, 512, 1024]⟩
abbrev S_ : Shape := ⟨0, ![]⟩
abbrev S72x1 : Shape := ⟨2, ![72, 1]⟩
abbrev S72x1024x7168 : Shape := ⟨3, ![72, 1024, 7168]⟩
abbrev S72x512x7168 : Shape := ⟨3, ![72, 512, 7168]⟩
abbrev S72x512x3584 : Shape := ⟨3, ![72, 512, 3584]⟩
abbrev S72x3584x1024 : Shape := ⟨3, ![72, 3584, 1024]⟩
abbrev S72x1x1 : Shape := ⟨3, ![72, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S72, .i32⟩
  | .hbm, ⟨2, _⟩ => ⟨S1, .i32⟩
  | .hbm, ⟨3, _⟩ => ⟨S8x1024x7168, .f32⟩
  | .hbm, ⟨4, _⟩ => ⟨S8x3584x1024, .f32⟩
  | .hbm, ⟨5, _⟩ => ⟨S36864x1024, .f32⟩
  | .hbm, ⟨6, _⟩ => ⟨S72x512x1024, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x1024x7168, .f32⟩
  | .hbm, ⟨16, _⟩ => ⟨S72x512x7168, .f32⟩
  | .hbm, ⟨17, _⟩ => ⟨S72x512x3584, .f32⟩
  | .hbm, ⟨18, _⟩ => ⟨S72x512x3584, .f32⟩
  | .hbm, ⟨19, _⟩ => ⟨S72x512x3584, .f32⟩
  | .hbm, ⟨20, _⟩ => ⟨S72x512x3584, .f32⟩
  | .hbm, ⟨21, _⟩ => ⟨S_, .f32⟩
  | .hbm, ⟨22, _⟩ => ⟨S72x512x3584, .f32⟩
  | .hbm, ⟨23, _⟩ => ⟨S72x512x3584, .f32⟩
  | .hbm, ⟨24, _⟩ => ⟨S_, .f32⟩
  | .hbm, ⟨25, _⟩ => ⟨S72x512x3584, .f32⟩
  | .hbm, ⟨26, _⟩ => ⟨S72x512x3584, .f32⟩
  | .hbm, ⟨27, _⟩ => ⟨S72x512x3584, .f32⟩
  | .hbm, ⟨28, _⟩ => ⟨S72x512x3584, .f32⟩
  | .hbm, ⟨29, _⟩ => ⟨S_, .i32⟩
  | .hbm, ⟨30, _⟩ => ⟨S72, .i32⟩
  | .hbm, ⟨31, _⟩ => ⟨S72, .i1⟩
  | .hbm, ⟨32, _⟩ => ⟨S_, .i32⟩
  | .hbm, ⟨33, _⟩ => ⟨S72, .i32⟩
  | .hbm, ⟨34, _⟩ => ⟨S72, .i32⟩
  | .hbm, ⟨35, _⟩ => ⟨S72, .i32⟩
  | .hbm, ⟨36, _⟩ => ⟨S72x1, .i32⟩
  | .hbm, ⟨37, _⟩ => ⟨S72x3584x1024, .f32⟩
  | .hbm, ⟨38, _⟩ => ⟨S72x512x1024, .f32⟩
  | .hbm, ⟨39, _⟩ => ⟨S72, .i32⟩
  | .hbm, ⟨40, _⟩ => ⟨S_, .i32⟩
  | .hbm, ⟨41, _⟩ => ⟨S72, .i32⟩
  | .hbm, ⟨42, _⟩ => ⟨S72, .i1⟩
  | .hbm, ⟨43, _⟩ => ⟨S72x1x1, .i1⟩
  | .hbm, ⟨44, _⟩ => ⟨S_, .f32⟩
  | .hbm, ⟨45, _⟩ => ⟨S_, .f32⟩
  | .hbm, ⟨46, _⟩ => ⟨S72x512x1024, .i1⟩
  | .hbm, ⟨47, _⟩ => ⟨S72x512x1024, .f32⟩
  | .hbm, ⟨48, _⟩ => ⟨S72x512x1024, .f32⟩
  | .hbm, ⟨49, _⟩ => ⟨S36864x1024, .f32⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Kernel4.lean ====
abbrev S16384x1024 : Shape := ⟨2, ![16384, 1024]⟩
abbrev S2x6x1024 : Shape := ⟨3, ![2, 6, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S2x6x1024 : Shape := ⟨3, ![2, 6, 1024]⟩
abbrev S1024x1024 : Shape := ⟨2, ![1024, 1024]⟩
abbrev S1024 : Shape := ⟨1, ![1024]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x1x1024, .f32⟩
  | .hbm, ⟨8, _⟩ => ⟨S16384x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S16384x1024 : Shape := ⟨2, ![16384, 1024]⟩
abbrev S16384x128 : Shape := ⟨2, ![16384, 128]⟩
abbrev S2x6x1024 : Shape := ⟨3, ![2, 6, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x6x1024 : Shape := ⟨3, ![1, 6, 1024]⟩
abbrev S512x1 : Shape := ⟨2, ![512, 1]⟩
abbrev S6x1024 : Shape := ⟨2, ![6, 1024]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S2x6x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S16384x128 : Shape := ⟨2, ![16384, 128]⟩
abbrev S2x6x1024 : Shape := ⟨3, ![2, 6, 1024]⟩
abbrev S1024 : Shape := ⟨1, ![1024]⟩
abbrev S2x8192x1024 : Shape := ⟨3, ![2, 8192, 1024]⟩
abbrev S2x1x1024 : Shape := ⟨3, ![2, 1, 1024]⟩
abbrev S16384x1 : Shape := ⟨2, ![16384, 1]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S2x6x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S2x1x1024, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S2x8192x1024, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S16384x1024 : Shape := ⟨2, ![16384, 1024]⟩
abbrev S2x6x1024 : Shape := ⟨3, ![2, 6, 1024]⟩
abbrev S1024x1024 : Shape := ⟨2, ![1024, 1024]⟩
abbrev S4x256x256 : Shape := ⟨3, ![4, 256, 256]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S1x6x1024 : Shape := ⟨3, ![1, 6, 1024]⟩
abbrev S6x1024 : Shape := ⟨2, ![6, 1024]⟩
abbrev S528x1024 : Shape := ⟨2, ![528, 1024]⟩
abbrev S528x1 : Shape := ⟨2, ![528, 1]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S4x256x256, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S4x256x256, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16384x1024 : Shape := ⟨2, ![16384, 1024]⟩
abbrev S2x6x1024 : Shape := ⟨3, ![2, 6, 1024]⟩
abbrev S1024x1024 : Shape := ⟨2, ![1024, 1024]⟩
abbrev S4x256x256 : Shape := ⟨3, ![4, 256, 256]⟩
abbrev S1024 : Shape := ⟨1, ![1024]⟩
abbrev S2x8192x1024 : Shape := ⟨3, ![2, 8192, 1024]⟩
abbrev S2x1x1024 : Shape := ⟨3, ![2, 1, 1024]⟩
abbrev S_ : Shape := ⟨0, ![]⟩
abbrev S2x8207x1024 : Shape := ⟨3, ![2, 8207, 1024]⟩
abbrev S8192 : Shape := ⟨1, ![8192]⟩
abbrev S2x8192x256 : Shape := ⟨3, ![2, 8192, 256]⟩
abbrev S1x8192x1 : Shape := ⟨3, ![1, 8192, 1]⟩
abbrev S1x256x256 : Shape := ⟨3, ![1, 256, 256]⟩
abbrev S256x256 : Shape := ⟨2, ![256, 256]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 196
  | .vmem => 0
  | .smem => 0
  | _ => 0

abbrev hbmTy0_0 (i : Nat) : BufTy := match i % 128 with
  | 0 => ⟨S16384x1024, .f32⟩
  | 1 => ⟨S2x6x1024, .f32⟩
  | 2 => ⟨S1024x1024, .f32⟩
  | 3 => ⟨S4x256x256, .f32⟩
  | 4 => ⟨S1024, .f32⟩
  | 5 => ⟨S1024x1024, .f32⟩
  | 6 => ⟨S1024, .f32⟩
  | 7 => ⟨S1024, .f32⟩
  | 8 => ⟨S2x8192x1024, .f32⟩
  | 9 => ⟨S2x1x1024, .f32⟩
  | 10 => ⟨S2x1x1024, .f32⟩
  | 11 => ⟨S2x1x1024, .f32⟩
  | 12 => ⟨S_, .f32⟩
  | 13 => ⟨S2x1x1024, .f32⟩
  | 14 => ⟨S2x1x1024, .f32⟩
  | 15 => ⟨S2x8192x1024, .f32⟩
  | 16 => ⟨S2x8192x1024, .f32⟩
  | 17 => ⟨S2x8192x1024, .f32⟩
  | 18 => ⟨S2x8192x1024, .f32⟩
  | 19 => ⟨S2x8192x1024, .f32⟩
  | 20 => ⟨S_, .i32⟩
  | 21 => ⟨S_, .f32⟩
  | 22 => ⟨S2x8207x1024, .f32⟩
  | 23 => ⟨S8192, .i32⟩
  | 24 => ⟨S2x8192x256, .f32⟩
  | 25 => ⟨S_, .f32⟩
  | 26 => ⟨S2x8192x256, .f32⟩
  | 27 => ⟨S2x8192x256, .f32⟩
  | 28 => ⟨S2x8192x256, .f32⟩
  | 29 => ⟨S2x8192x256, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S1x8192x1, .f32⟩
  | 38 => ⟨S2x8192x256, .f32⟩
  | 39 => ⟨S2x8192x256, .f32⟩
  | 40 => ⟨S2x8192x256, .f32⟩
  | 41 => ⟨S2x8192x256, .f32⟩
  | 42 => ⟨S1x256x256, .f32⟩
  | 43 => ⟨S256x256, .f32⟩
  | 44 => ⟨S2x8192x256, .f32⟩
  | 45 => ⟨S2x8192x256, .f32⟩
  | 46 => ⟨S_, .f32⟩
  | 47 => ⟨S2x8192x256, .f32⟩
  | 48 => ⟨S2x8192x256, .f32⟩
  | 49 => ⟨S2x8192x256, .f32⟩
  | 50 => ⟨S2x8192x256, .f32⟩
  | 51 => ⟨S2x8192x256, .f32⟩
  | 52 => ⟨S2x8192x256, .f32⟩
  | 53 => ⟨S2x8192x256, .f32⟩
  | 54 => ⟨S2x8192x256, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S1x8192x1, .f32⟩
  | 63 => ⟨S2x8192x256, .f32⟩
  | 64 => ⟨S2x8192x256, .f32⟩
  | 65 => ⟨S2x8192x256, .f32⟩
  | 66 => ⟨S2x8192x256, .f32⟩
  | 67 => ⟨S1x256x256, .f32⟩
  | 68 => ⟨S256x256, .f32⟩
  | 69 => ⟨S2x8192x256, .f32⟩
  | 70 => ⟨S2x8192x256, .f32⟩
  | 71 => ⟨S_, .f32⟩
  | 72 => ⟨S2x8192x256, .f32⟩
  | 73 => ⟨S2x8192x256, .f32⟩
  | 74 => ⟨S2x8192x256, .f32⟩
  | 75 => ⟨S2x8192x256, .f32⟩
  | 76 => ⟨S2x8192x256, .f32⟩
  | 77 => ⟨S2x8192x256, .f32⟩
  | 78 => ⟨S2x8192x256, .f32⟩
  | 79 => ⟨S2x8192x256, .f32⟩
  | 80 => ⟨S2x8192x256, .f32⟩
  | 81 => ⟨S2x8192x256, .f32⟩
  | 82 => ⟨S2x8192x256, .f32⟩
  | 83 => ⟨S2x8192x256, .f32⟩
  | 84 => ⟨S2x8192x256, .f32⟩
  | 85 => ⟨S2x8192x256, .f32⟩
  | 86 => ⟨S2x8192x256, .f32⟩
  | 87 => ⟨S2x8192x256, .f32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S1x8192x1, .f32⟩
  | 96 => ⟨S2x8192x256, .f32⟩
  | 97 => ⟨S2x8192x256, .f32⟩
  | 98 => ⟨S2x8192x256, .f32⟩
  | 99 => ⟨S2x8192x256, .f32⟩
  | 100 => ⟨S1x256x256, .f32⟩
  | 101 => ⟨S256x256, .f32⟩
  | 102 => ⟨S2x8192x256, .f32⟩
  | 103 => ⟨S2x8192x256, .f32⟩
  | 104 => ⟨S_, .f32⟩
  | 105 => ⟨S2x8192x256, .f32⟩
  | 106 => ⟨S2x8192x256, .f32⟩
  | 107 => ⟨S2x8192x256, .f32⟩
  | 108 => ⟨S2x8192x256, .f32⟩
  | 109 => ⟨S2x8192x256, .f32⟩
  | 110 => ⟨S2x8192x256, .f32⟩
  | 111 => ⟨S2x8192x256, .f32⟩
  | 112 => ⟨S2x8192x256, .f32⟩
  | 113 => ⟨S2x8192x256, .f32⟩
  | 114 => ⟨S2x8192x256, .f32⟩
  | 115 => ⟨S2x8192x256, .f32⟩
  | 116 => ⟨S2x8192x256, .f32⟩
  | 117 => ⟨S2x8192x256, .f32⟩
  | 118 => ⟨S2x8192x256, .f32⟩
  | 119 => ⟨S2x8192x256, .f32⟩
  | 120 => ⟨S2x8192x256, .f32⟩
  | 121 => ⟨S2x8192x256, .f32⟩
  | 122 => ⟨S2x8192x256, .f32⟩
  | 123 => ⟨S2x8192x256, .f32⟩
  | 124 => ⟨S2x8192x256, .f32⟩
  | 125 => ⟨S2x8192x256, .f32⟩
  | 126 => ⟨S2x8192x256, .f32⟩
  | 127 => ⟨S2x8192x256, .f32⟩
  | _ => ⟨S16384x1024, .f32⟩

abbrev hbmTy0_1 (i : Nat) : BufTy := match i % 128 with
  | 0 => ⟨S2x8192x256, .f32⟩
  | 1 => ⟨S2x8192x256, .f32⟩
  | 2 => ⟨S2x8192x256, .f32⟩
  | 3 => ⟨S2x8192x256, .f32⟩
  | 4 => ⟨S2x8192x256, .f32⟩
  | 5 => ⟨S2x8192x256, .f32⟩
  | 6 => ⟨S2x8192x256, .f32⟩
  | 7 => ⟨S2x8192x256, .f32⟩
  | 8 => ⟨S2x8192x256, .f32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S8192, .f32⟩
  | 16 => ⟨S1x8192x1, .f32⟩
  | 17 => ⟨S2x8192x256, .f32⟩
  | 18 => ⟨S2x8192x256, .f32⟩
  | 19 => ⟨S2x8192x256, .f32⟩
  | 20 => ⟨S2x8192x256, .f32⟩
  | 21 => ⟨S1x256x256, .f32⟩
  | 22 => ⟨S256x256, .f32⟩
  | 23 => ⟨S2x8192x256, .f32⟩
  | 24 => ⟨S2x8192x1024, .f32⟩
  | 25 => ⟨S1x1x1024, .f32⟩
  | 26 => ⟨S2x8192x1024, .f32⟩
  | 27 => ⟨S2x8192x1024, .f32⟩
  | 28 => ⟨S2x8192x1024, .f32⟩
  | 29 => ⟨S_, .f32⟩
  | 30 => ⟨S2x8192x1024, .f32⟩
  | 31 => ⟨S2x8192x1024, .f32⟩
  | 32 => ⟨S_, .f32⟩
  | 33 => ⟨S2x1x1024, .f32⟩
  | 34 => ⟨S2x1x1024, .f32⟩
  | 35 => ⟨S2x8192x1024, .f32⟩
  | 36 => ⟨S2x8192x1024, .f32⟩
  | 37 => ⟨S2x8192x1024, .f32⟩
  | 38 => ⟨S_, .f32⟩
  | 39 => ⟨S2x8192, .f32⟩
  | 40 => ⟨S2x8192x1, .f32⟩
  | 41 => ⟨S_, .f32⟩
  | 42 => ⟨S2x8192x1, .f32⟩
  | 43 => ⟨S2x8192x1, .f32⟩
  | 44 => ⟨S2x8192x1024, .f32⟩
  | 45 => ⟨S2x8192x1024, .f32⟩
  | 46 => ⟨S2x8192x1024, .f32⟩
  | 47 => ⟨S_, .f32⟩
  | 48 => ⟨S2x8192, .f32⟩
  | 49 => ⟨S2x8192x1, .f32⟩
  | 50 => ⟨S_, .f32⟩
  | 51 => ⟨S2x8192x1, .f32⟩
  | 52 => ⟨S2x8192x1, .f32⟩
  | 53 => ⟨S2x8192x1024, .f32⟩
  | 54 => ⟨S2x8192x1024, .f32⟩
  | 55 => ⟨S_, .f32⟩
  | 56 => ⟨S2x8192x1, .f32⟩
  | 57 => ⟨S2x8192x1, .f32⟩
  | 58 => ⟨S2x8192x1, .f32⟩
  | 59 => ⟨S2x8192x1024, .f32⟩
  | 60 => ⟨S2x8192x1024, .f32⟩
  | 61 => ⟨S1x1x1024, .f32⟩
  | 62 => ⟨S2x8192x1024, .f32⟩
  | 63 => ⟨S2x8192x1024, .f32⟩
  | 64 => ⟨S1x1x1024, .f32⟩
  | 65 => ⟨S2x8192x1024, .f32⟩
  | 66 => ⟨S2x8192x1024, .f32⟩
  | 67 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_7 : Ref sig .tc := ⟨.hbm, 88, rfl⟩
abbrev main_v70 : Ref sig .tc := ⟨.hbm, 89, rfl⟩
abbrev main_v71 : Ref sig .tc := ⟨.hbm, 90, rfl⟩
abbrev main_c_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_c_10 : Ref sig .tc := ⟨.hbm, 137, rfl⟩
abbrev main_v116 : Ref sig .tc := ⟨.hbm, 138, rfl⟩
abbrev main_v117 : Ref sig .tc := ⟨.hbm, 139, rfl⟩
abbrev main_c_11 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_12 : Ref sig .tc := ⟨.hbm, 157, rfl⟩
abbrev main_v134 : Ref sig .tc := ⟨.hbm, 158, rfl⟩
abbrev main_v135 : Ref sig .tc := ⟨.hbm, 159, rfl⟩
abbrev main_cst_13 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_14 : Ref sig .tc := ⟨.hbm, 166, rfl⟩
abbrev main_v141 : Ref sig .tc := ⟨.hbm, 167, rfl⟩
abbrev main_v142 : Ref sig .tc := ⟨.hbm, 168, rfl⟩
abbrev main_cst_15 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_cst_16 : Ref sig .tc := ⟨.hbm, 175, rfl⟩
abbrev main_v148 : Ref sig .tc := ⟨.hbm, 176, rfl⟩
abbrev main_v149 : Ref sig .tc := ⟨.hbm, 177, rfl⟩
abbrev main_cst_17 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_18 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩

abbrev nD : Nat := 1
abbrev τ : Topo := Topo.v7x

variable {F : FTy → Type} [FloatOps F]
-- ==== Proof.RowMath.lean ====
module

public import Idealize.ShloMosaic.Lib.Pipeline.ValueKit
public import Idealize.ShloMosaic.Lib.Pointwise
public import Idealize.ShloMosaic.PureOps.Ideal.Laws

/-! # The row mathematics shared by both sides

Every layer here acts on rows: a row is modulated, multiplied into a wider row, gated, multiplied back and
normalised. The functions of this module say what one row becomes, over plain functions into the extended
reals, so that a kernel tile and the whole array of the reference can both be compared with them. -/

@[expose] public section

set_option maxRecDepth 16384

noncomputable section

open Idealize.ShloMosaic Idealize.ShloMosaic.TcCoe

namespace Cert.RowMath

/-- The constant added to a variance before its inverse square root. -/
def eps : EReal := Ideal.ofBits FTy.f32 925353388#32
/-- The weight of the residual branch. -/
def alpha : EReal := Ideal.ofBits FTy.f32 1071072509#32
/-- The width of the normalised hidden row, as the number the means divide by. -/
def width2048 : EReal := Ideal.ofBits FTy.f32 1157627904#32
/-- The width of a model row, as the number the means divide by. -/
def width1024 : EReal := Ideal.ofBits FTy.f32 1149239296#32

/-- The mean of a row, over the count `n`. -/
def mean {k : ℕ} (n : EReal) (x : Fin k → EReal) : EReal := Ideal.div (∑ i, x i) n

/-- A row less its mean. -/
def centred {k : ℕ} (n : EReal) (x : Fin k → EReal) (j : Fin k) : EReal := x j - mean n x

/-- Layer normalisation of a row with gain `g` and bias `b`. -/
def norm {k : ℕ} (n : EReal) (x g b : Fin k → EReal) (j : Fin k) : EReal :=
  centred n x j * Ideal.rsqrt (mean n (fun i => centred n x i * centred n x i) + eps) * g j + b j

/-- The modulation of a row: scale `1 + sc`, shift `sh`. -/
def modulate {k : ℕ} (x sc sh : Fin k → EReal) (i : Fin k) : EReal := x i * (1 + sc i) + sh i

/-- A row times a matrix. -/
def mulRow {k n : ℕ} (x : Fin k → EReal) (w : Fin k → Fin n → EReal) (j : Fin n) : EReal := ∑ i, x i * w i j

/-- The exact Gaussian error linear unit. -/
def gelu (z : EReal) : EReal :=
  (Ideal.ofBits FTy.f32 1056964608#32 * z) * (1 + Ideal.erf (z * Ideal.ofBits FTy.f32 1060439283#32))

/-- The same with the complementary error function of the negated argument. -/
theorem gelu_erfc (z : EReal) :
    (Ideal.ofBits FTy.f32 1056964608#32 * z) * Ideal.erfc (-z * Ideal.ofBits FTy.f32 1060439283#32) = gelu z := by
  rw [gelu, EReal.neg_mul, Ideal.erfc_neg]

/-- The residual of a row `x` and its branch `y` under the gate `1 + gt`. -/
def residual {k : ℕ} (x gt y : Fin k → EReal) (d : Fin k) : EReal := alpha * x d + (1 + gt d) * y d

end Cert.RowMath
end
-- ==== Proof.GmlpSpec.lean ====
module

public import proofs.«01_k».proof.Proof.RowMath

/-! # What the gMLP mixer makes of one chunk of 128 rows

The mixer is local to chunks of 128 consecutive rows: the hidden row of each is split into a gate half and a
value half, the value half is normalised and mixed causally along the chunk (one triangular matrix per group of
256 columns), and the gated row is multiplied back, gated into the residual and normalised. -/

@[expose] public section

set_option maxRecDepth 16384

noncomputable section

open Idealize.ShloMosaic Idealize.ShloMosaic.TcCoe

namespace Cert.GmlpSpec

open Cert.RowMath

/-- The mask bit "column `s` is not after row `t`" inside a chunk, as both programs compute it. -/
theorem causal_bit : ∀ t s : Fin 128, IntOp.cmpi CmpIPredicate.sge (BitVec.ofNat 32 t.val) (BitVec.ofNat 32 s.val)
    = if s.val ≤ t.val then 1#1 else 0#1 := by decide +kernel

/-- Choosing by the mask bit is choosing by the order. -/
theorem select_causal {α : Type} (t s : Fin 128) (x y : α) :
    Scalar.select (IntOp.cmpi CmpIPredicate.sge (BitVec.ofNat 32 t.val) (BitVec.ofNat 32 s.val)) x y
      = if s.val ≤ t.val then x else y := by
  rw [causal_bit]; split <;> rfl

/-- The reference's mask bit, which adds a zero offset and chooses between the two bits, is the same bit. -/
theorem causal_add_zero (t s : Fin 128) :
    Scalar.select (IntOp.cmpi CmpIPredicate.sge (IntOp.addi (BitVec.ofNat 32 t.val) 0#32) (BitVec.ofNat 32 s.val)) 1#1 0#1
      = IntOp.cmpi CmpIPredicate.sge (BitVec.ofNat 32 t.val) (BitVec.ofNat 32 s.val) := by
  rw [show IntOp.addi (BitVec.ofNat 32 t.val) 0#32 = BitVec.ofNat 32 t.val from BitVec.add_zero _, select_causal,
    causal_bit]

/-- The hidden row: the modulated row times the first matrix, through the error linear unit. -/
def hiddenRow (x sc sh : Fin 1024 → EReal) (w : Fin 1024 → Fin 4096 → EReal) (j : Fin 4096) : EReal :=
  gelu (∑ k, (x k * (1 + sc k) + sh k) * w k j)

/-- The value half of a hidden row, normalised. -/
def valueRow (z : Fin 4096 → EReal) (g b : Fin 2048 → EReal) : Fin 2048 → EReal :=
  norm width2048 (fun j => z ⟨2048 + j, by omega⟩) g b

/-- The gated row `t` of a chunk: the gate half times the causal mixture of the chunk's value rows plus its bias. -/
def gated (z : Fin 128 → Fin 4096 → EReal) (g b : Fin 2048 → EReal) (wS : Fin 8 → Fin 128 → Fin 128 → EReal)
    (bS : Fin 8 → Fin 128 → EReal) (t : Fin 128) (c : Fin 2048) : EReal :=
  z t ⟨c, by omega⟩ * ((∑ s : Fin 128, if s.val ≤ t.val then wS ⟨c / 256, by omega⟩ t s * valueRow (z s) g b c else 0)
    + bS ⟨c / 256, by omega⟩ t)

/-- The layer's row `t` of a chunk. -/
def layer (X : Fin 128 → Fin 1024 → EReal) (sh sc gt : Fin 1024 → EReal) (wIn : Fin 1024 → Fin 4096 → EReal)
    (g b : Fin 2048 → EReal) (wS : Fin 8 → Fin 128 → Fin 128 → EReal) (bS : Fin 8 → Fin 128 → EReal)
    (wOut : Fin 2048 → Fin 1024 → EReal) (lg lb : Fin 1024 → EReal) (t : Fin 128) : Fin 1024 → EReal :=
  norm width1024 (residual (X t) gt (mulRow (gated (fun s => hiddenRow (X s) sc sh wIn) g b wS bS t) wOut)) lg lb

end Cert.GmlpSpec
end
-- ==== Proof.GmlpReference.lean ====
module

public import proofs.«01_k».proof.Proof.Gen.ReferenceIdeal.Read
public import proofs.«01_k».proof.Proof.GmlpSpec

/-! # The reference of the gMLP mixer, row by row -/

@[expose] public section

set_option maxRecDepth 16384

noncomputable section

open Idealize.ShloMosaic Idealize.ShloMosaic.TcCoe Idealize.SL.Sem

namespace Cert.ReferenceIdeal.Gmlp

open Cert.ReferenceIdeal Cert.ReferenceIdeal.Gen Cert.ReferenceIdeal.Read Cert.RowMath Cert.GmlpSpec

variable (x0 : Vec Ideal S16384x1024 .f32) (x1 : Vec Ideal S2x6x1024 .f32) (x2 : Vec Ideal S1024x4096 .f32)
  (x3 x4 : Vec Ideal S2048 .f32) (x5 : Vec Ideal S8x128x128 .f32) (x6 : Vec Ideal S8x128 .f32)
  (x7 : Vec Ideal S2048x1024 .f32) (x8 x9 : Vec Ideal S1024 .f32)

/-- Row `s` of batch `b`, as a row of the flat array. -/
abbrev rowX (b : Fin 2) (s : Fin 8192) : Fin 1024 → EReal := fun k => x0 (ix2 (⟨b * 8192 + s, by omega⟩ : Fin 16384) k)
/-- Row `n` of batch `b`'s modulation. -/
abbrev modRow (n : Fin 6) (b : Fin 2) : Fin 1024 → EReal := fun k => x1 (ix3 b n k)

theorem hidden_at (b : Fin 2) (s : Fin 8192) (j : Fin 4096) :
    val_main_v17 (F := Ideal) x0 x1 x2 (ix3 b s j)
      = hiddenRow (rowX x0 b s) (modRow x1 1 b) (modRow x1 0 b) (fun k j => x2 (ix2 k j)) j := by
  rw [hiddenRow, ← gelu_erfc]
  pointwise [val_main_v17, val_main_v16, val_main_v15, val_main_v14, val_main_v13, val_main_v12, val_main_v11,
    val_main_v10, val_main_v9, val_main_v8, val_main_v7, val_main_v6, val_main_v5, val_main_v4, val_main_v2,
    val_main_v1, val_main_v0, val_main_cst, val_main_cst_0, val_main_cst_1]

theorem value_at (b : Fin 2) (s : Fin 8192) (j : Fin 2048) :
    val_main_v43 (F := Ideal) x0 x1 x2 x3 x4 (ix3 b s j)
      = valueRow (hiddenRow (rowX x0 b s) (modRow x1 1 b) (modRow x1 0 b) (fun k j => x2 (ix2 k j)))
          (fun j => x3 (ix1 j)) (fun j => x4 (ix1 j)) j := by
  pointwise [val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_cst_2, val_main_cst_3, val_main_cst_4, val_main_cst_5, val_main_cst_6]
  simp only [hidden_at]
  rfl

theorem mask_at (g : Fin 8) (t s : Fin 128) :
    val_main_v48 (F := Ideal) x5 (ix3 g t s) = if s.val ≤ t.val then x5 (ix3 g t s) else 0 := by
  pointwise [val_main_v48, val_main_call1_v2, val_main_call1_v1, val_main_call1_v0, val_main_v47, val_main_v46,
    val_main_call0_v5, val_main_call0_c_0, val_main_call0_v4, val_main_call0_v3, val_main_call0_v2, val_main_call0_v1,
    val_main_call0_c, val_main_call0_v0, val_main_v45, val_main_c, val_main_c_7]
  rw [causal_add_zero, select_causal]
  congr 1
  simp [FloatOps.sitofp]

theorem gated_at (b : Fin 2) (s : Fin 8192) (c : Fin 2048) :
    val_main_v57 (F := Ideal) x0 x1 x2 x3 x4 x5 x6 (ix3 b s c)
      = gated (fun l : Fin 128 => hiddenRow (rowX x0 b ⟨s / 128 * 128 + l, by omega⟩) (modRow x1 1 b) (modRow x1 0 b) (fun k j => x2 (ix2 k j)))
          (fun j => x3 (ix1 j)) (fun j => x4 (ix1 j)) (fun g t s => x5 (ix3 g t s)) (fun g t => x6 (ix2 g t))
          ⟨s % 128, by omega⟩ c := by
  pointwise [val_main_v57, val_main_v56, val_main_v55, val_main_v54, val_main_v53, val_main_v52, val_main_v51,
    val_main_v50, val_main_v49, val_main_v44, val_main_v18]
  simp only [hidden_at, value_at, mask_at]
  have e : ∀ h, (⟨s.val / 128 * 128 + s.val % 128, h⟩ : Fin 8192) = s := fun h => Fin.ext (by
    show s.val / 128 * 128 + s.val % 128 = s.val; omega)
  simp only [gated, e, mul_comm (valueRow _ _ _ _), ite_mul, zero_mul]

theorem residual_at (b : Fin 2) (s : Fin 8192) (d : Fin 1024) :
    val_main_v65 (F := Ideal) x0 x1 x2 x3 x4 x5 x6 x7 (ix3 b s d)
      = residual (rowX x0 b s) (modRow x1 2 b) (mulRow (gated (fun l : Fin 128 => hiddenRow (rowX x0 b ⟨s / 128 * 128 + l, by omega⟩) (modRow x1 1 b) (modRow x1 0 b) (fun k j => x2 (ix2 k j)))
          (fun j => x3 (ix1 j)) (fun j => x4 (ix1 j)) (fun g t s => x5 (ix3 g t s)) (fun g t => x6 (ix2 g t))
          ⟨s % 128, by omega⟩) (fun c d => x7 (ix2 c d))) d := by
  pointwise [val_main_v65, val_main_v64, val_main_v63, val_main_v62, val_main_v61, val_main_v60, val_main_v59,
    val_main_v58, val_main_v3, val_main_v0, val_main_cst_8, val_main_cst_9]
  simp only [gated_at]
  rfl

theorem norm_at (i : Fin 16384) (d : Fin 1024) :
    val_main_v90 (F := Ideal) x0 x1 x2 x3 x4 x5 x6 x7 x8 x9 (ix2 i d)
      = norm width1024 (fun d => val_main_v65 (F := Ideal) x0 x1 x2 x3 x4 x5 x6 x7
          (ix3 (⟨i / 8192, by omega⟩ : Fin 2) (⟨i % 8192, by omega⟩ : Fin 8192) d)) (fun d => x8 (ix1 d)) (fun d => x9 (ix1 d)) d := by
  pointwise [val_main_v90, val_main_v89, val_main_v88, val_main_v87, val_main_v86, val_main_v85, val_main_v84,
    val_main_v83, val_main_v82, val_main_v81, val_main_v80, val_main_v79, val_main_v78, val_main_v77, val_main_v76,
    val_main_v75, val_main_v74, val_main_v73, val_main_v72, val_main_v71, val_main_v70, val_main_v69, val_main_v68,
    val_main_v67, val_main_v66, val_main_cst_10, val_main_cst_11, val_main_cst_12, val_main_cst_13, val_main_cst_14]
  rfl

/-- The reference's result at row `i`, column `d`. -/
theorem result_at (i : Fin 16384) (d : Fin 1024) :
    val_main_v90 (F := Ideal) x0 x1 x2 x3 x4 x5 x6 x7 x8 x9 (ix2 i d)
      = layer (fun l : Fin 128 => fun k => x0 (ix2 (⟨i / 128 * 128 + l, by omega⟩ : Fin 16384) k))
          (modRow x1 0 ⟨i / 8192, by omega⟩) (modRow x1 1 ⟨i / 8192, by omega⟩) (modRow x1 2 ⟨i / 8192, by omega⟩)
          (fun k j => x2 (ix2 k j)) (fun j => x3 (ix1 j)) (fun j => x4 (ix1 j)) (fun g t s => x5 (ix3 g t s))
          (fun g t => x6 (ix2 g t)) (fun c d => x7 (ix2 c d)) (fun d => x8 (ix1 d)) (fun d => x9 (ix1 d))
          ⟨i % 128, by omega⟩ d := by
  have e1 : ∀ l : Fin 128, rowX x0 ⟨i / 8192, by omega⟩ ⟨i % 8192 / 128 * 128 + l, by omega⟩
      = fun k => x0 (ix2 (⟨i / 128 * 128 + l, by omega⟩ : Fin 16384) k) := fun l => by
    funext k
    exact congrArg (fun r : Fin 16384 => x0 (ix2 r k)) (Fin.ext (by
      show i.val / 8192 * 8192 + (i.val % 8192 / 128 * 128 + l.val) = i.val / 128 * 128 + l.val; omega))
  have e2 : rowX x0 ⟨i / 8192, by omega⟩ ⟨i % 8192, by omega⟩
      = fun k => x0 (ix2 (⟨i / 128 * 128 + i % 128, by omega⟩ : Fin 16384) k) := by
    funext k
    exact congrArg (fun r : Fin 16384 => x0 (ix2 r k)) (Fin.ext (by
      show i.val / 8192 * 8192 + i.val % 8192 = i.val / 128 * 128 + i.val % 128; omega))
  have e3 : (⟨i % 8192 % 128, by omega⟩ : Fin 128) = ⟨i % 128, by omega⟩ := Fin.ext (by
    show i.val % 8192 % 128 = i.val % 128; omega)
  simp only [norm_at, residual_at, e1, e2, e3, layer]

end Cert.ReferenceIdeal.Gmlp
end
-- ==== Proof.GmlpKernel.lean ====
module

public import proofs.«01_k».proof.Proof.Gen.KernelIdeal.Value
public import Idealize.ShloMosaic.Lib.Claim
public import proofs.«01_k».proof.Proof.GmlpReference

/-! # The gMLP mixer's kernel writes the reference's result -/

@[expose] public section

set_option maxRecDepth 16384

noncomputable section

open Idealize.ShloMosaic Idealize.ShloMosaic.TcCoe Idealize.SL.Sem
open Idealize.ShloMosaic.Pipeline (Dat)

namespace Cert.KernelIdeal.Gmlp

open Cert.KernelIdeal Cert.KernelIdeal.Gen Cert.RowMath Cert.GmlpSpec
variable (m : (ℓ : Loc nD τ sig) → Buf (Elt Ideal) ℓ)

section payloads

variable (x0 : Vec Ideal S256x1024 .f32) (x1 : Vec Ideal S1x6x1024 .f32) (x2 : Vec Ideal S1024x4096 .bf16)
  (x3 x4 : Vec Ideal S1x2048 .f32) (x5 : Vec Ideal S8x128x128 .f32) (x6 : Vec Ideal S128x8 .f32)
  (x7 : Vec Ideal S2048x1024 .bf16) (x8 x9 : Vec Ideal S1x1024 .f32)

/-- The hidden row of row `r` of a tile. -/
abbrev tileHidden (r : Fin 256) : Fin 4096 → EReal :=
  hiddenRow (fun k => x0 (ix2 r k)) (fun k => x1 (ix3 0 1 k)) (fun k => x1 (ix3 0 0 k)) (fun k j => x2 (ix2 k j))

/-- The gated row `r` of a tile, from the 128 rows of its chunk. -/
def tileGated (r : Fin 256) (c : Fin 2048) : EReal :=
  gated (fun s => tileHidden x0 x1 x2 ⟨r / 128 * 128 + s, by omega⟩) (fun j => x3 (ix2 0 j)) (fun j => x4 (ix2 0 j))
    (fun e t s => x5 (ix3 e t s)) (fun e t => x6 (ix2 t e)) ⟨r % 128, by omega⟩ c

theorem hidden_pay (r : Fin 256) (j : Fin 4096) : k0_pay3 x0 x1 x2 (ix2 r j) = tileHidden x0 x1 x2 r j := by
  pointwise [k0_pay3, k0_pay2]
  rfl

theorem gate_pay (r : Fin 256) (c : Fin 2048) :
    k0_pay4 x0 x1 x2 (ix2 r c) = tileHidden x0 x1 x2 r ⟨c, by omega⟩ := by
  pointwise [k0_pay4]
  exact hidden_pay x0 x1 x2 _ _

theorem value_pay (r : Fin 256) (c : Fin 2048) :
    k0_pay10 (k0_pay5 x3) (k0_pay6 x4) (k0_pay7 x0 x1 x2) (k0_pay8 x0 x1 x2) k0_pay9 (ix2 r c)
      = valueRow (tileHidden x0 x1 x2 r) (fun j => x3 (ix2 0 j)) (fun j => x4 (ix2 0 j)) c := by
  pointwise [k0_pay10, k0_pay5, k0_pay6, k0_pay9, k0_pay8, k0_pay7]
  simp only [hidden_pay]
  rfl

/-- One stored piece of the gated rows, at its place in the tile. -/
theorem gated_piece (r : Fin 256) (c : Fin 2048) (ra : Fin 256) (ca : Fin 2048) (rows : Fin 128 → Fin 256)
    (a : Fin 128) (e : Fin 8) (hra : ra.val = r.val) (hca : ca.val = c.val) (hrows : ∀ s, (rows s).val = r.val / 128 * 128 + s.val)
    (ha : a.val = r.val % 128) (he : e.val = c.val / 256) :
    k0_pay4 x0 x1 x2 (ix2 ra ca) * ((∑ s, Scalar.select (IntOp.cmpi CmpIPredicate.sge (BitVec.ofNat 32 a.val) (BitVec.ofNat 32 s.val))
      (x5 (ix3 e a s) * k0_pay10 (k0_pay5 x3) (k0_pay6 x4) (k0_pay7 x0 x1 x2) (k0_pay8 x0 x1 x2) k0_pay9 (ix2 (rows s) ca)) 0)
        + x6 (ix2 a e)) = tileGated x0 x1 x2 x3 x4 x5 x6 r c := by
  obtain rfl : ra = r := Fin.ext hra
  obtain rfl : ca = c := Fin.ext hca
  have ea : a = ⟨ra.val % 128, by omega⟩ := Fin.ext ha
  have ee : e = ⟨ca.val / 256, by omega⟩ := Fin.ext he
  have er : rows = fun s => ⟨ra.val / 128 * 128 + s.val, by omega⟩ := funext fun s => Fin.ext (hrows s)
  have hr : ∀ h, (⟨ra.val / 128 * 128 + ra.val % 128, h⟩ : Fin 256) = ra := fun h => Fin.ext (by
    show ra.val / 128 * 128 + ra.val % 128 = ra.val; omega)
  subst er
  simp only [gate_pay, value_pay, select_causal a]
  simp only [tileGated, gated, ea, hr, ee]

theorem out_norm (a b : Vec Ideal S1x1024 .f32) (v0 : Vec Ideal S256x1024 .f32) (v1 : Vec Ideal S1x6x1024 .f32) (g : Vec Ideal S256x2048 .bf16)
    (w : Vec Ideal S2048x1024 .bf16) (r : Fin 256) (d : Fin 1024) (Γ : Fin 256 → Fin 2048 → EReal) (hg : ∀ c, g (ix2 r c) = Γ r c) :
    k0_pay1 (k0_pay48 a) (k0_pay49 b) (k0_pay50 v0 (k0_pay2 v1) g w) (k0_pay51 v0 (k0_pay2 v1) g w) (ix2 r d)
      = norm width1024 (residual (fun k => v0 (ix2 r k)) (fun k => v1 (ix3 0 2 k)) (mulRow (Γ r) fun c d => w (ix2 c d)))
          (fun d => a (ix2 0 d)) (fun d => b (ix2 0 d)) d := by
  rw [← show (fun c => g (ix2 r c)) = Γ r from funext hg]
  pointwise [k0_pay1, k0_pay48, k0_pay49, k0_pay50, k0_pay51, k0_pay2]
  rfl

end payloads

theorem idx : ∀ t : Fin cfg0.N, win0_0.index t = ![t.val, 0] ∧ win0_1.index t = ![t.val / 32, 0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem lt_points (t : Fin cfg0.N) : t.val < 64 := t.isLt

/-! What each window shows at a point, read off the arguments. -/

theorem iblk0_at (c : Dev nD) (t : Fin cfg0.N) (r : Fin 256) (k : Fin 1024) :
    iblk m c 0 t (ix2 r k) = m ((c.tc : Thread nD τ).loc main_arg0) (ix2 ⟨t.val * 256 + r.val, by have := lt_points t; omega⟩ k) := by
  blk_point [iblk, V, idx t]

theorem iblk1_at (c : Dev nD) (t : Fin cfg0.N) (r : Fin 6) (k : Fin 1024) :
    iblk m c 1 t (ix3 0 r k) = m ((c.tc : Thread nD τ).loc main_arg1) (ix3 ⟨t.val / 32, by have := lt_points t; omega⟩ r k) := by
  blk_point [iblk, V, idx t]

theorem iblk2_at (c : Dev nD) (t : Fin cfg0.N) (r : Fin 1024) (k : Fin 4096) :
    iblk m c 2 t (ix2 r k) = m ((c.tc : Thread nD τ).loc main_arg2) (ix2 r k) := by
  blk_point [iblk, idx t]

theorem iblk3_at (c : Dev nD) (t : Fin cfg0.N) (k : Fin 2048) :
    iblk m c 3 t (ix2 0 k) = m ((c.tc : Thread nD τ).loc main_arg3) (ix1 k) := by
  blk_point [iblk, idx t]

theorem iblk4_at (c : Dev nD) (t : Fin cfg0.N) (k : Fin 2048) :
    iblk m c 4 t (ix2 0 k) = m ((c.tc : Thread nD τ).loc main_arg4) (ix1 k) := by
  blk_point [iblk, idx t]

theorem iblk5_at (c : Dev nD) (t : Fin cfg0.N) (g : Fin 8) (r s : Fin 128) :
    iblk m c 5 t (ix3 g r s) = m ((c.tc : Thread nD τ).loc main_arg5) (ix3 g r s) := by
  blk_point [iblk, V, idx t]

theorem iblk6_at (c : Dev nD) (t : Fin cfg0.N) (r : Fin 128) (k : Fin 8) :
    iblk m c 6 t (ix2 r k) = m ((c.tc : Thread nD τ).loc main_arg6) (ix2 k r) := by
  blk_point [iblk, idx t]

theorem iblk7_at (c : Dev nD) (t : Fin cfg0.N) (r : Fin 2048) (k : Fin 1024) :
    iblk m c 7 t (ix2 r k) = m ((c.tc : Thread nD τ).loc main_arg7) (ix2 r k) := by
  blk_point [iblk, idx t]

theorem iblk8_at (c : Dev nD) (t : Fin cfg0.N) (k : Fin 1024) :
    iblk m c 8 t (ix2 0 k) = m ((c.tc : Thread nD τ).loc main_arg8) (ix1 k) := by
  blk_point [iblk, idx t]

theorem iblk9_at (c : Dev nD) (t : Fin cfg0.N) (k : Fin 1024) :
    iblk m c 9 t (ix2 0 k) = m ((c.tc : Thread nD τ).loc main_arg9) (ix1 k) := by
  blk_point [iblk, idx t]

/-- The reference's result from the kernel's arguments. -/
abbrev want (c : Dev nD) : Vec Ideal S16384x1024 .f32 :=
  Cert.ReferenceIdeal.Read.val_main_v90 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- A tile's row, computed from the blocks, is the reference's row at its place. -/
theorem tile_row (c : Dev nD) (t : Fin cfg0.N) (r : Fin 256) (d : Fin 1024) :
    norm width1024 (residual (fun k => iblk m c 0 t (ix2 r k)) (fun k => iblk m c 1 t (ix3 0 2 k))
      (mulRow (tileGated (iblk m c 0 t) (iblk m c 1 t) (iblk m c 2 t) (iblk m c 3 t) (iblk m c 4 t) (iblk m c 5 t) (iblk m c 6 t) r)
        fun c' d => iblk m c 7 t (ix2 c' d))) (fun d => iblk m c 8 t (ix2 0 d)) (fun d => iblk m c 9 t (ix2 0 d)) d
      = want m c (ix2 ⟨t.val * 256 + r.val, by have := lt_points t; omega⟩ d) := by
  have ht := lt_points t
  refine Eq.trans ?_ (Cert.ReferenceIdeal.Gmlp.result_at _ _ _ _ _ _ _ _ _ _ _ _).symm
  have q1 : ∀ s : Fin 128, (t.val * 256 + r.val) / 128 * 128 + s.val = t.val * 256 + (r.val / 128 * 128 + s.val) := by omega
  have q2 : (t.val * 256 + r.val) % 128 = r.val % 128 := by omega
  have q3 : (t.val * 256 + r.val) / 8192 = t.val / 32 := by omega
  have q4 : (t.val * 256 + r.val) / 128 * 128 + r.val % 128 = t.val * 256 + r.val := by omega
  have tg : tileGated (iblk m c 0 t) (iblk m c 1 t) (iblk m c 2 t) (iblk m c 3 t) (iblk m c 4 t) (iblk m c 5 t) (iblk m c 6 t) r
      = gated (fun s => tileHidden (iblk m c 0 t) (iblk m c 1 t) (iblk m c 2 t) ⟨r / 128 * 128 + s, by omega⟩)
          (fun j => iblk m c 3 t (ix2 0 j)) (fun j => iblk m c 4 t (ix2 0 j))
          (fun e t' s => iblk m c 5 t (ix3 e t' s)) (fun e t' => iblk m c 6 t (ix2 t' e)) ⟨r % 128, by omega⟩ := rfl
  simp only [tg, tileHidden, layer, iblk0_at, iblk1_at, iblk2_at, iblk3_at, iblk4_at, iblk5_at, iblk6_at, iblk7_at, iblk8_at, iblk9_at,
    q1, q2, q3, q4]

/-- The array the kernel leaves is the reference's result. -/
theorem final (c : Dev nD) : (dats m 0 c).arrAt 10 (cfgs 0).N = want m c := by
  refine (dats m 0 c).arrAt_eq_of_covers 10 _ (by decide +kernel) fun t hf y => ?_
  blk_simp
  rw [after0_10]
  unfold outsAt0
  frame_out
  idx_vars y
  refine (out_norm _ _ _ _ _ _ _ _ (tileGated (iblk m c 0 t) (iblk m c 1 t) (iblk m c 2 t) (iblk m c 3 t) (iblk m c 4 t) (iblk m c 5 t) (iblk m c 6 t)) (fun j => ?_)).trans ?_
  · rw [View.readCov_eq_canon']
    have e : (Rect.unit (s := S256x2048) ![0, 0] ![256, 2048] inb_S256x2048_S256x2048_0_0).toLoadRect.idx (ix2 y0 j) = ix2 y0 j := by
      funext k
      apply Fin.ext
      fin_cases k <;> simp [Rect.idx_unit_val]
    refine (congrArg (View.canon _) e).trans ?_
    canon_tiles x h
    all_goals
      idx_vars x
      replace h0 : y0.val = _ := h0
      replace h1 : j.val = _ := h1
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine gated_piece _ _ _ _ _ _ _ y0 j _ _ (fun s => _) _ _ ?_ ?_ (fun s => ?_) ?_ ?_
      all_goals (try dsimp only); omega
  · refine (tile_row m c t y0 y1).trans (congrArg (want m c) ?_)
    blk_ext [idx t]
end Cert.KernelIdeal.Gmlp
end
-- ==== Proof.SwigluSpec.lean ====
module

public import proofs.«01_k».proof.Proof.RowMath

/-! # One row through a SwiGLU feed-forward block -/

@[expose] public section

noncomputable section

open Idealize.ShloMosaic Idealize.ShloMosaic.TcCoe

namespace Cert.SwigluSpec

open Cert.RowMath

/-- The sigmoid-weighted linear unit, as one division. -/
def silu (z : EReal) : EReal := Ideal.div z (1 + Ideal.exp (-z))

theorem exp_nonneg : ∀ z : EReal, 0 ≤ Ideal.exp z
  | ⊥ => le_refl _
  | ⊤ => le_top
  | (r : ℝ) => EReal.coe_nonneg.mpr (Real.exp_pos r).le

theorem one_add_exp_ne_zero (z : EReal) : 1 + Ideal.exp z ≠ 0 := by
  have h : (1 : EReal) + 0 ≤ 1 + Ideal.exp z := add_le_add le_rfl (exp_nonneg z)
  intro e
  rw [e, add_zero] at h
  exact absurd h (not_le.mpr zero_lt_one)

/-- The unit as a product with the logistic function. -/
theorem silu_logistic (z : EReal) : z * Ideal.div 1 (1 + Ideal.exp (-z)) = silu z := by
  rw [silu, Ideal.div, Ideal.div, if_neg (one_add_exp_ne_zero _), if_neg (one_add_exp_ne_zero _), one_mul]

/-- The gated activation of feature `f`: the row against gate column `f`, activated, times the row against value column `f`. -/
def act {k n : ℕ} (h : Fin k → EReal) (wG wV : Fin k → Fin n → EReal) (f : Fin n) : EReal :=
  silu (mulRow h wG f) * mulRow h wV f

/-- The row after the block: the activations times the output matrix. -/
def swiglu {k n d : ℕ} (h : Fin k → EReal) (wG wV : Fin k → Fin n → EReal) (wO : Fin n → Fin d → EReal) : Fin d → EReal :=
  mulRow (act h wG wV) wO

/-- A row of the layer: modulated, through the block, residual and normalised. -/
def layer (x sc sh gt : Fin 1024 → EReal) (wG wV : Fin 1024 → Fin 3584 → EReal) (wO : Fin 3584 → Fin 1024 → EReal)
    (lg lb : Fin 1024 → EReal) : Fin 1024 → EReal :=
  norm width1024 (residual x gt (swiglu (modulate x sc sh) wG wV wO)) lg lb

end Cert.SwigluSpec
end
-- ==== Proof.DenseReference.lean ====
module

public import proofs.«01_k».proof.Proof.Gen.Reference2Ideal.Read
public import proofs.«01_k».proof.Proof.SwigluSpec

/-! # The reference of the dense feed-forward layer, row by row -/

@[expose] public section

set_option maxRecDepth 16384

noncomputable section

open Idealize.ShloMosaic Idealize.ShloMosaic.TcCoe Idealize.SL.Sem

namespace Cert.Reference2Ideal.Dense

open Cert.Reference2Ideal Cert.Reference2Ideal.Gen Cert.Reference2Ideal.Read Cert.RowMath Cert.SwigluSpec

variable (x0 : Vec Ideal S16384x1024 .f32) (x1 : Vec Ideal S2x6x1024 .f32) (x2 : Vec Ideal S1024x7168 .f32)
  (x3 : Vec Ideal S3584x1024 .f32) (x4 x5 : Vec Ideal S1024 .f32)

/-- Row `s` of batch `b`, as a row of the flat array. -/
abbrev rowX (b : Fin 2) (s : Fin 8192) : Fin 1024 → EReal := fun k => x0 (ix2 (⟨b * 8192 + s, by omega⟩ : Fin 16384) k)
/-- Row `n` of batch `b`'s modulation. -/
abbrev modRow (n : Fin 6) (b : Fin 2) : Fin 1024 → EReal := fun k => x1 (ix3 b n k)
/-- The gate half and the value half of the fused input matrix. -/
abbrev gateW : Fin 1024 → Fin 3584 → EReal := fun k f => x2 (ix2 k (⟨f, by omega⟩ : Fin 7168))
abbrev valueW : Fin 1024 → Fin 3584 → EReal := fun k f => x2 (ix2 k (⟨3584 + f, by omega⟩ : Fin 7168))

theorem act_at (b : Fin 2) (s : Fin 8192) (f : Fin 3584) :
    val_main_v14 (F := Ideal) x0 x1 x2 (ix3 b s f)
      = act (modulate (rowX x0 b s) (modRow x1 4 b) (modRow x1 3 b)) (gateW x2) (valueW x2) f := by
  pointwise [val_main_v14, val_main_v13, val_main_v12, val_main_v11, val_main_v10, val_main_v9, val_main_v8, val_main_v7,
    val_main_v6, val_main_v5, val_main_v4, val_main_v2, val_main_v1, val_main_v0, val_main_cst,
    val_main_call0_v0, val_main_call0_v1, val_main_call0_cst, val_main_call0_v2, val_main_call0_v3, val_main_call0_cst_0,
    val_main_call0_v4, val_main_call0_v5]
  rw [silu_logistic]
  rfl

theorem residual_at (b : Fin 2) (s : Fin 8192) (d : Fin 1024) :
    val_main_v22 (F := Ideal) x0 x1 x2 x3 (ix3 b s d)
      = residual (rowX x0 b s) (modRow x1 5 b)
          (swiglu (modulate (rowX x0 b s) (modRow x1 4 b) (modRow x1 3 b)) (gateW x2) (valueW x2) fun f d => x3 (ix2 f d)) d := by
  pointwise [val_main_v22, val_main_v21, val_main_v20, val_main_v19, val_main_v18, val_main_v17, val_main_v16, val_main_v15,
    val_main_v3, val_main_v0, val_main_cst_0, val_main_cst_1]
  simp only [act_at]
  rfl

theorem norm_at (b : Fin 2) (s : Fin 8192) (d : Fin 1024) :
    val_main_v46 (F := Ideal) x0 x1 x2 x3 x4 x5 (ix3 b s d)
      = norm width1024 (fun d => val_main_v22 (F := Ideal) x0 x1 x2 x3 (ix3 b s d)) (fun d => x4 (ix1 d)) (fun d => x5 (ix1 d)) d := by
  pointwise [val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28, val_main_v27, val_main_v26, val_main_v25, val_main_v24, val_main_v23,
    val_main_cst_2, val_main_cst_3, val_main_cst_4, val_main_cst_5, val_main_cst_6]
  rfl

theorem result_at (i : Fin 16384) (d : Fin 1024) :
    val_main_v47 (F := Ideal) x0 x1 x2 x3 x4 x5 (ix2 i d)
      = layer (fun k => x0 (ix2 i k)) (modRow x1 4 ⟨i / 8192, by omega⟩) (modRow x1 3 ⟨i / 8192, by omega⟩)
          (modRow x1 5 ⟨i / 8192, by omega⟩) (gateW x2) (valueW x2) (fun f d => x3 (ix2 f d))
          (fun d => x4 (ix1 d)) (fun d => x5 (ix1 d)) d := by
  have e1 : rowX x0 ⟨i / 8192, by omega⟩ ⟨i % 8192, by omega⟩ = fun k => x0 (ix2 i k) := by
    funext k
    exact congrArg (fun r : Fin 16384 => x0 (ix2 r k)) (Fin.ext (by
      show i.val / 8192 * 8192 + i.val % 8192 = i.val; omega))
  have e2 : val_main_v47 (F := Ideal) x0 x1 x2 x3 x4 x5 (ix2 i d)
      = val_main_v46 (F := Ideal) x0 x1 x2 x3 x4 x5 (ix3 ⟨i / 8192, by omega⟩ ⟨i % 8192, by omega⟩ d) := by
    pointwise [val_main_v47]
  rw [e2]
  simp only [norm_at, residual_at, e1, layer]

end Cert.Reference2Ideal.Dense
end
-- ==== Proof.DenseKernel.lean ====
module

public import proofs.«01_k».proof.Proof.Gen.Kernel2Ideal.Value
public import Idealize.ShloMosaic.Lib.Claim
public import proofs.«01_k».proof.Proof.DenseReference

/-! # The dense feed-forward kernel writes the reference's result -/

@[expose] public section

set_option maxRecDepth 16384

noncomputable section

open Idealize.ShloMosaic Idealize.ShloMosaic.TcCoe Idealize.SL.Sem
open Idealize.ShloMosaic.Pipeline (Dat)

namespace Cert.Kernel2Ideal.Dense

open Cert.Kernel2Ideal Cert.Kernel2Ideal.Gen Cert.RowMath Cert.SwigluSpec

section payloads

variable (X : Vec Ideal S512x1024 .f32) (M : Vec Ideal S1x6x1024 .f32)

theorem row_pay (r : Fin 512) (k : Fin 1024) :
    k0_pay1 X M (ix2 r k) = modulate (fun k => X (ix2 r k)) (fun k => M (ix3 0 4 k)) (fun k => M (ix3 0 3 k)) k := by
  pointwise [k0_pay1]
  rfl

theorem part_pay (h : Vec Ideal S512x1024 .bf16) (wG wV : Vec Ideal S1024x512 .bf16) (wO : Vec Ideal S512x1024 .bf16)
    (r : Fin 512) (d : Fin 1024) :
    k0_pay2 h wG wV wO (ix2 r d)
      = swiglu (fun k => h (ix2 r k)) (fun k f => wG (ix2 k f)) (fun k f => wV (ix2 k f)) (fun f d => wO (ix2 f d)) d := by
  pointwise [k0_pay2]
  simp only [zero_sub]
  rfl

theorem first_pay (h : Vec Ideal S512x1024 .bf16) (wG wV : Vec Ideal S1024x512 .bf16) (wO : Vec Ideal S512x1024 .bf16)
    (i : S512x1024.Idx) : k0_pay3 h wG wV wO i = k0_pay2 h wG wV wO i := by
  idx_vars i
  pointwise [k0_pay3]

theorem next_pay (h : Vec Ideal S512x1024 .bf16) (wG wV : Vec Ideal S1024x512 .bf16) (wO : Vec Ideal S512x1024 .bf16)
    (acc : Vec Ideal S512x1024 .f32) (i : S512x1024.Idx) : k0_pay4 h wG wV wO acc i = acc i + k0_pay2 h wG wV wO i := by
  idx_vars i
  pointwise [k0_pay4]

theorem out_pay (acc : Vec Ideal S512x1024 .f32) (lg lb : Vec Ideal S1x1024 .f32) (r : Fin 512) (d : Fin 1024)
    (Γ : Fin 1024 → EReal) (hg : ∀ d, acc (ix2 r d) = Γ d) :
    k0_pay5 X acc M lg lb (ix2 r d)
      = norm width1024 (residual (fun k => X (ix2 r k)) (fun k => M (ix3 0 5 k)) Γ)
          (fun d => lg (ix2 0 d)) (fun d => lb (ix2 0 d)) d := by
  rw [← show (fun d => acc (ix2 r d)) = Γ from funext hg]
  pointwise [k0_pay5]
  rfl

end payloads

variable (m : (ℓ : Loc nD τ sig) → Buf (Elt Ideal) ℓ)

theorem idx : ∀ t : Fin cfg0.N, win0_0.index t = ![t.val / 7, 0] ∧ win0_1.index t = ![t.val / 112, 0, 0] ∧ win0_2.index t = ![0, t.val % 7]
    ∧ win0_3.index t = ![0, 7 + t.val % 7] ∧ win0_4.index t = ![t.val % 7, 0] ∧ win0_5.index t = ![0, 0] ∧ win0_6.index t = ![0, 0]
    ∧ win0_7.index t = ![t.val / 7, 0] :=
  (by decide +kernel : ∀ t : Fin grid0.N, _)

theorem lt_points (t : Fin cfg0.N) : t.val < 224 := t.isLt

theorem iblk0_at (c : Dev nD) (t : Fin cfg0.N) (r : Fin 512) (k : Fin 1024) :
    iblk m c 0 t (ix2 r k) = m ((c.tc : Thread nD τ).loc main_arg0) (ix2 ⟨t.val / 7 * 512 + r.val, by have := lt_points t; omega⟩ k) := by
  blk_point [iblk, V, idx t]

theorem iblk1_at (c : Dev nD) (t : Fin cfg0.N) (r : Fin 6) (k : Fin 1024) :
    iblk m c 1 t (ix3 0 r k) = m ((c.tc : Thread nD τ).loc main_arg1) (ix3 ⟨t.val / 112, by have := lt_points t; omega⟩ r k) := by
  blk_point [iblk, V, idx t]

theorem iblk2_at (c : Dev nD) (t : Fin cfg0.N) (r : Fin 1024) (k : Fin 512) :
    iblk m c 2 t (ix2 r k) = m ((c.tc : Thread nD τ).loc main_arg2) (ix2 r ⟨t.val % 7 * 512 + k.val, by omega⟩) := by
  blk_point [iblk, idx t]

theorem iblk3_at (c : Dev nD) (t : Fin cfg0.N) (r : Fin 1024) (k : Fin 512) :
    iblk m c 3 t (ix2 r k) = m ((c.tc : Thread nD τ).loc main_arg2) (ix2 r ⟨3584 + (t.val % 7 * 512 + k.val), by omega⟩) := by
  blk_point [iblk, idx t]

theorem iblk4_at (c : Dev nD) (t : Fin cfg0.N) (r : Fin 512) (k : Fin 1024) :
    iblk m c 4 t (ix2 r k) = m ((c.tc : Thread nD τ).loc main_arg3) (ix2 ⟨t.val % 7 * 512 + r.val, by omega⟩ k) := by
  blk_point [iblk, idx t]

theorem iblk5_at (c : Dev nD) (t : Fin cfg0.N) (k : Fin 1024) :
    iblk m c 5 t (ix2 0 k) = m ((c.tc : Thread nD τ).loc main_arg4) (ix1 k) := by
  blk_point [iblk, idx t]

theorem iblk6_at (c : Dev nD) (t : Fin cfg0.N) (k : Fin 1024) :
    iblk m c 6 t (ix2 0 k) = m ((c.tc : Thread nD τ).loc main_arg5) (ix1 k) := by
  blk_point [iblk, idx t]

/-- The modulated row `r` of tile `i`. -/
abbrev tileRow (c : Dev nD) (i : Fin 32) (r : Fin 512) : Fin 1024 → EReal :=
  modulate (fun k => (m ((c.tc : Thread nD τ).loc main_arg0) : Vec Ideal S16384x1024 .f32) (ix2 ⟨i.val * 512 + r.val, by omega⟩ k))
    (fun k => (m ((c.tc : Thread nD τ).loc main_arg1) : Vec Ideal S2x6x1024 .f32) (ix3 ⟨i.val / 16, by omega⟩ 4 k))
    (fun k => (m ((c.tc : Thread nD τ).loc main_arg1) : Vec Ideal S2x6x1024 .f32) (ix3 ⟨i.val / 16, by omega⟩ 3 k))

theorem row_point (c : Dev nD) (t : Fin cfg0.N) (r : Fin 512) (k : Fin 1024) :
    k0_pay1 (iblk m c 0 t) (iblk m c 1 t) (ix2 r k) = tileRow m c ⟨t.val / 7, by have := lt_points t; omega⟩ r k := by
  have q : t.val / 7 / 16 = t.val / 112 := by omega
  rw [row_pay]
  simp only [iblk0_at, iblk1_at, tileRow, q]

/-- The first scratch holds the tile's modulated rows at every point. -/
theorem scratch_row (c : Dev nD) : ∀ (n : ℕ) (h : n < cfg0.N) (r : Fin 512) (k : Fin 1024),
    (outsAt0 m c n h).2.1 (ix2 r k) = tileRow m c ⟨n / 7, by have := lt_points ⟨n, h⟩; dsimp only at this; omega⟩ r k := by
  intro n
  induction n with
  | zero =>
    intro h r k
    rw [show outsAt0 m c 0 h = _ from outsAt0_A m c ⟨0, h⟩ (Nat.zero_mod 7) (Nat.zero_mod 7) (by dsimp only; omega) (by dsimp only; omega)]
    frame_out
    exact row_point m c ⟨0, h⟩ r k
  | succ n ih =>
    intro h r k
    by_cases h0 : (n + 1) % 7 = 0
    · rw [show outsAt0 m c (n + 1) h = _ from outsAt0_A m c ⟨n + 1, h⟩ h0 h0 (by dsimp only; omega) (by dsimp only; omega)]
      frame_out
      exact row_point m c ⟨n + 1, h⟩ r k
    · have e := ih (by omega) r k
      have q : n / 7 = (n + 1) / 7 := by omega
      simp only [q] at e
      by_cases h3 : (n + 1) % 7 = 6
      · rw [show outsAt0 m c (n + 1) h = _ from outsAt0_C m c ⟨n + 1, h⟩ h0 h0 (by dsimp only; omega) h3]
        frame_out
        exact e
      · rw [show outsAt0 m c (n + 1) h = _ from outsAt0_B m c ⟨n + 1, h⟩ h0 h0 (by dsimp only; omega) h3]
        frame_out
        exact e

/-- What point `t` adds to row `r` of its tile: the block's output over the point's 512 features. -/
def part (c : Dev nD) (t : Fin cfg0.N) (r : Fin 512) : Fin 1024 → EReal :=
  swiglu (tileRow m c ⟨t.val / 7, by have := lt_points t; omega⟩ r)
    (fun k (f : Fin 512) => (m ((c.tc : Thread nD τ).loc main_arg2) : Vec Ideal S1024x7168 .f32) (ix2 k ⟨t.val % 7 * 512 + f.val, by omega⟩))
    (fun k (f : Fin 512) => (m ((c.tc : Thread nD τ).loc main_arg2) : Vec Ideal S1024x7168 .f32) (ix2 k ⟨3584 + (t.val % 7 * 512 + f.val), by omega⟩))
    (fun (f : Fin 512) d => (m ((c.tc : Thread nD τ).loc main_arg3) : Vec Ideal S3584x1024 .f32) (ix2 ⟨t.val % 7 * 512 + f.val, by omega⟩ d))

theorem part_point (c : Dev nD) (t : Fin cfg0.N) (h : Vec Ideal S512x1024 .bf16) (r : Fin 512) (d : Fin 1024)
    (hh : ∀ k, h (ix2 r k) = tileRow m c ⟨t.val / 7, by have := lt_points t; omega⟩ r k) :
    k0_pay2 h (iblk m c 2 t) (iblk m c 3 t) (iblk m c 4 t) (ix2 r d) = part m c t r d := by
  rw [part_pay, show (fun k => h (ix2 r k)) = _ from funext hh]
  simp only [iblk2_at, iblk3_at, iblk4_at, part]

/-- The second scratch at the first point of a tile. -/
theorem acc_first (c : Dev nD) (t : Fin cfg0.N) (h0 : t.val % 7 = 0) (i : S512x1024.Idx) :
    (outsAt0 m c t.val t.isLt).2.2 i = 0 + part m c t (i 0) (i 1) := by
  idx_vars i
  rw [outsAt0_A m c t h0 h0 (by omega) (by omega)]
  frame_out
  rw [first_pay, zero_add]
  exact part_point m c t _ _ _ (row_point m c t _)

/-- A whole buffer holding `X` reads `X`. -/
theorem read_held {κ : Kind} {Val : EltTy → Type} (b : Ref sig κ) (h : (Memref.whole b).IsWhole)
    (X : b.ty.shape.Idx → Val b.ty.elt) : View.read Val (View.whole b) (h.unread X) = X := h.read_unread X

/-- The second scratch at a later point of a tile. -/
theorem acc_next (c : Dev nD) (t : Fin cfg0.N) (h0 : ¬t.val % 7 = 0) (i : S512x1024.Idx) :
    (outsAt0 m c t.val t.isLt).2.2 i
      = (outsAt0 m c (t.val - 1) (Nat.lt_of_le_of_lt (Nat.sub_le _ _) t.isLt)).2.2 i + part m c t (i 0) (i 1) := by
  idx_vars i
  have hp := scratch_row m c (t.val - 1) (Nat.lt_of_le_of_lt (Nat.sub_le _ _) t.isLt) i0
  have q : (t.val - 1) / 7 = t.val / 7 := by omega
  simp only [q] at hp
  by_cases h3 : t.val % 7 = 6
  · rw [outsAt0_C m c t h0 h0 (by omega) h3]
    frame_out
    rw [next_pay, read_held, read_held, part_point m c t _ _ _ hp]
  · rw [outsAt0_B m c t h0 h0 (by omega) h3]
    frame_out
    rw [next_pay, read_held, read_held, part_point m c t _ _ _ hp]

/-- The second scratch at the last point of a tile: the whole block's output. -/
theorem acc_last (c : Dev nD) (t : Fin cfg0.N) (h : t.val % 7 = 6) (r : Fin 512) (d : Fin 1024) :
    (outsAt0 m c t.val t.isLt).2.2 (ix2 r d)
      = swiglu (tileRow m c ⟨t.val / 7, by have := lt_points t; omega⟩ r)
          (Cert.Reference2Ideal.Dense.gateW (m ((c.tc : Thread nD τ).loc main_arg2)))
          (Cert.Reference2Ideal.Dense.valueW (m ((c.tc : Thread nD τ).loc main_arg2)))
          (fun f d => (m ((c.tc : Thread nD τ).loc main_arg3) : Vec Ideal S3584x1024 .f32) (ix2 f d)) d := by
  rw [Pipeline.eq_sum_fin_of_reset_step_apply_of_flush (fun n h => (outsAt0 m c n h).2.2) 7 (fun _ => 0)
    (fun t i => part m c t (i 0) (i 1)) (acc_first m c) (acc_next m c) t h (ix2 r d), zero_add]
  refine Fin.sum_mul_add_congr fun s k hl => ?_
  have q1 : (7 * (t.val / 7) + s.val) / 7 = t.val / 7 := by omega
  have q2 : (7 * (t.val / 7) + s.val) % 7 = s.val := by omega
  simp only [q1, q2]
  rfl

/-- The reference's result from the kernel's arguments. -/
abbrev want (c : Dev nD) : Vec Ideal S16384x1024 .f32 :=
  Cert.Reference2Ideal.Read.val_main_v47 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- What the last point of a tile stores is the reference's rows at their place. -/
theorem out_point (c : Dev nD) (t : Fin cfg0.N) (h : t.val % 7 = 6) (r : Fin 512) (d : Fin 1024) :
    (outsAt0 m c t.val t.isLt).1 (ix2 r d)
      = want m c (ix2 ⟨t.val / 7 * 512 + r.val, by have := lt_points t; omega⟩ d) := by
  have ht := lt_points t
  have ha := acc_last m c t h r
  rw [outsAt0_C m c t (by omega) (by omega) (by omega) h] at ha ⊢
  frame_out at ha
  frame_out
  refine (out_pay _ _ _ _ _ _ _ _ ha).trans ?_
  refine Eq.trans ?_ (Cert.Reference2Ideal.Dense.result_at _ _ _ _ _ _ _ _).symm
  have q1 : t.val / 7 / 16 = t.val / 112 := by omega
  have q2 : (t.val / 7 * 512 + r.val) / 8192 = t.val / 112 := by omega
  simp only [iblk0_at, iblk1_at, iblk5_at, iblk6_at, layer, tileRow, q1, q2]

/-- The array the kernel leaves is the reference's result. -/
theorem final (c : Dev nD) : (dats m 0 c).arrAt 7 (cfgs 0).N = want m c := by
  refine (dats m 0 c).arrAt_eq_of_covers 7 _ (by decide +kernel) fun t hf y => ?_
  blk_simp
  rw [after0_7]
  idx_vars y
  refine (out_point m c t ((flush0_7 t).mp hf) y0 y1).trans (congrArg (want m c) ?_)
  blk_ext [idx t]

end Cert.Kernel2Ideal.Dense
end
-- ==== Proof.ExpertsBits.RunA.lean ====
/-
  The body at a point of kind A: the block is in use and the slice is the first, so the product starts the accumulator.
-/
module

public import proofs.«01_k».proof.Proof.ExpertsBits.Runs

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨?_, fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg4.eq_unread hf0; obtain rfl := harg5.eq_unread hf1; obtain rfl := harg6.eq_unread hf2; obtain rfl := harg7.eq_unread hf3
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]; · iexists _; iexact HS0
    isplitl [HT0]; · iexact HT0
    iexact HT1

end Cert.Kernel3.Experts

end
-- ==== Proof.ExpertsBits.RunB.lean ====
/-
  The body at a point of kind B: the block is not in use and the slice is not the last, so nothing is stored.
-/
module

public import proofs.«01_k».proof.Proof.ExpertsBits.RunA

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) :
    { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨[], fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _; isplitr; · ipureintro; exact harg9.read_unread _
      iexact HS0
    isplitl [HT0]; · iexact HT0
    iexact HT1

end Cert.Kernel3.Experts

end
-- ==== Proof.ExpertsBits.RunC.lean ====
/-
  The body at a point of kind C: the block is in use, the slice is neither first nor last, so the product is added to the
  accumulator.
-/
module

public import proofs.«01_k».proof.Proof.ExpertsBits.RunB

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) :
    { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨?_, fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]; · iexists _; iexact HS0
    isplitl [HT0]; · iexact HT0
    iexact HT1

end Cert.Kernel3.Experts

end
-- ==== Proof.ExpertsBits.RunD.lean ====
/-
  The body at a point of kind D: the block is in use and the slice is the last, so the product is added and the accumulator
  is stored as the result.
-/
module

public import proofs.«01_k».proof.Proof.ExpertsBits.RunC

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) :
    { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨?_, fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := cond4_of i _ hc0 hc3
    have hc5 := not_cond5_of i _ hc0
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]; · iexists _; iexact HS0
    isplitl [HT0]; · iexact HT0
    iexact HT1

end Cert.Kernel3.Experts

end
-- ==== Proof.ExpertsBits.RunE.lean ====
/-
  The body at a point of kind E: the block is not in use and the slice is the last, so zeros are stored as the result.
-/
module

public import proofs.«01_k».proof.Proof.ExpertsBits.RunD

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_E (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) :
    { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨[], fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := not_cond4_of i _ hc0
    have hc5 := cond5_of i _ hc0 hc3
    sl_exec (disch := first | sl_exact hc4 | sl_exact hc5 | sl_exact hc0 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _; isplitr; · ipureintro; exact harg9.read_unread _
      iexact HS0
    isplitl [HT0]; · iexact HT0
    iexact HT1

end Cert.Kernel3.Experts

end
-- ==== Proof.ExpertsBits.Frame.lean ====
/-
  The whole run of the expert layer: what every point leaves in the result's window and in the accumulator, by recursion on
  the points, and from it that the kernel runs to the end, keeps its arguments and leaves its counters at zero. Before the
  first point that is in use the accumulator holds anything; after it, what the recursion says.
-/
module

public import proofs.«01_k».proof.Proof.ExpertsBits.RunE
public import Idealize.ShloMosaic.Lib.Claim

@[expose] public section

set_option maxRecDepth 16384

noncomputable section

namespace Cert.Kernel3.Experts

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem scover0_A_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 hc1 hc2 hc3 x0 x1 x2 x3 xt0 xt1 hc0).1, y ∈ pc.1.set :=
  View.cover_of_tiledL (kernelRun0_A c i arg4 harg4 arg5 harg5 arg6 harg6 arg7 harg7 arg8 harg8 arg9 harg9 hc1 hc2 hc3 x0 x1 x2 x3 xt0 xt1 hc0).1 S512x1024.size (by sl_kernel_rfl) y

def sout0_A_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 hc1 hc2 hc3 x0 x1 x2 x3 xt0 xt1 hc0).1)

def sout0_B_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 := xs0

theorem scover0_C_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc1 hc2 hc3 x0 x1 x2 x3 xt0 xt1 xs0 hc0).1, y ∈ pc.1.set :=
  View.cover_of_tiledL (kernelRun0_C c i arg4 harg4 arg5 harg5 arg6 harg6 arg7 harg7 arg8 harg8 arg9 harg9 hc1 hc2 hc3 x0 x1 x2 x3 xt0 xt1 xs0 hc0).1 S512x1024.size (by sl_kernel_rfl) y

def sout0_C_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 hc1 hc2 hc3 x0 x1 x2 x3 xt0 xt1 xs0 hc0).1)

theorem scover0_D_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 hc1 hc2 hc3 x0 x1 x2 x3 xt0 xt1 xs0 hc0).1, y ∈ pc.1.set :=
  View.cover_of_tiledL (kernelRun0_D c i arg4 harg4 arg5 harg5 arg6 harg6 arg7 harg7 arg8 harg8 arg9 harg9 hc1 hc2 hc3 x0 x1 x2 x3 xt0 xt1 xs0 hc0).1 S512x1024.size (by sl_kernel_rfl) y

def sout0_D_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_D c i arg4 harg4 arg5 harg5 arg6 harg6 arg7 harg7 arg8 harg8 arg9 harg9 hc1 hc2 hc3 x0 x1 x2 x3 xt0 xt1 xs0 hc0).1)

def sout0_E_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 := xs0

/-- What point `n` leaves: the result's window and the accumulator. -/
def outsAt0 (hO : Ok m) (c : Dev nD) : (n : ℕ) → n < (cfgM m hO).N → Vec F S512x1024 .f32
  | 0, hn => if h0 : cond0_0 (grid0.coords ⟨0, hn⟩) (tbM0_1.view.readAt (Elt F) (Rect.unit (s := S1) ![0] S1.size inb_S1_S1_0).toLoadRect (tbl m 1) (Shape.Idx.first (numel1_S1.symm ▸ Nat.one_pos))) then
      sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0
    else
      sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) (VS0_0.read (Elt F) VS0_0.junk) h0
  | n + 1, hn =>
    if h0 : cond0_0 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h1 : (n + 1) % 7 = 0 then
        if h2 : 1 ≤ (n + 1) % 7 then
          False.elim (by have hN : n + 1 < 504 := lt_of_lt_of_eq hn (show (cfgM m hO).N = 504 from N_0); omega)
        else
          if h3 : (n + 1) % 7 = 6 then
            False.elim (by have hN : n + 1 < 504 := lt_of_lt_of_eq hn (show (cfgM m hO).N = 504 from N_0); omega)
          else
            sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_1 ⟨n + 1, hn⟩).mpr h1) (fun h => h2 ((hcond0_2 ⟨n + 1, hn⟩).mp h)) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0
      else
        if h2 : 1 ≤ (n + 1) % 7 then
          if h3 : (n + 1) % 7 = 6 then
            sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)) h0
          else
            sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)) h0
        else
          False.elim (by have hN : n + 1 < 504 := lt_of_lt_of_eq hn (show (cfgM m hO).N = 504 from N_0); omega)
    else
      if h3 : (n + 1) % 7 = 6 then
        sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)) h0
      else
        sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : t.val % 7 = 0) (h2 : ¬1 ≤ t.val % 7) (h3 : ¬t.val % 7 = 6) :
    outsAt0 m hO c t.val t.isLt = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0 := by
  obtain ⟨n, hn⟩ := t
  cases n with
  | zero => exact (dif_pos h0).trans rfl
  | succ n => exact (dif_pos h0).trans ((dif_pos h1).trans ((dif_neg h2).trans ((dif_neg h3).trans rfl)))

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h3 : ¬t.val % 7 = 6) (hq0B : ¬(t.val % 504 = 0)) :
    outsAt0 m hO c t.val t.isLt = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)) h0 := by
  obtain ⟨n, hn⟩ := t
  cases n with
  | zero => exact (by exfalso; (try dsimp only at hq0B); exact by omega)
  | succ n => exact (dif_neg h0).trans ((dif_neg h3).trans rfl)

theorem outsAt0_C (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬t.val % 7 = 0) (h2 : 1 ≤ t.val % 7) (h3 : ¬t.val % 7 = 6) :
    outsAt0 m hO c t.val t.isLt = sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)) h0 := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

theorem outsAt0_D (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬t.val % 7 = 0) (h2 : 1 ≤ t.val % 7) (h3 : t.val % 7 = 6) :
    outsAt0 m hO c t.val t.isLt = sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)) h0 := by
  obtain ⟨n, hn⟩ := t
  cases n with
  | zero => exact (by exfalso; (try dsimp only at h1); exact absurd (Nat.zero_mod _) h1)
  | succ n => exact (dif_pos h0).trans ((dif_neg h1).trans ((dif_pos h2).trans ((dif_pos h3).trans rfl)))

theorem outsAt0_E (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h3 : t.val % 7 = 6) :
    outsAt0 m hO c t.val t.isLt = sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)) h0 := by
  obtain ⟨n, hn⟩ := t
  cases n with
  | zero => exact (by exfalso; (try dsimp only at h3); exact by omega)
  | succ n => exact (dif_neg h0).trans ((dif_pos h3).trans rfl)

/-- What is known of the accumulator before point `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(∃ d, iprop(⌜Used m → d = (outsAt0 m hO c n hn)⌝ ∗ owns (c : Thread nD τ) scM0_0 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(∃ d, iprop(⌜Used m → d = (outsAt0 m hO c n hn)⌝ ∗ owns (c : Thread nD τ) scM0_0 fullShare d)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(∃ d, iprop(⌜Used m → d = (outsAt0 m hO c (n - 1) (by omega))⌝ ∗ owns (c : Thread nD τ) scM0_0 fullShare d)) ∗ (∃ r, prngReg c r)) ∗ Pipeline.ΦT pre0 (tbl m) c) := by
  cases n with
  | zero => exact absurd rfl hz
  | succ n => rfl

def forgets0 : Fin 5 → Bool := fun w => w.val == 4

/-- The data of the run: what every window holds after every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What holds before point `t`'s body. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- What holds after point `t`'s body. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (∃ d, owns (c : Thread nD τ) (ms0_4 m hO t) fullShare d))

set_option maxHeartbeats 8000000 in
/-- The body takes what holds before a point to what holds after it, one kind of point after the other. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 504 := lt_of_lt_of_eq t.isLt (show (cfgM m hO).N = 504 from N_0)
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · by_cases h1 : t.val % 7 = 0
    · by_cases h2 : 1 ≤ t.val % 7
      · exfalso; omega
      · by_cases h3 : t.val % 7 = 6
        · exfalso; omega
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          by_cases hz : t.val = 0
          · rw [PhiS_castSucc m hO c t, PhiS_zero m hO c _ _ hz, PhiT0_eq, PhiA0_eq]
            rw [outsAt0_A m hO c t h0 h1 h2 h3]
            unfold sout0_A_0
            iintro ⟨⟨⟨HS0, Hg⟩, ⟨HT0, HT1⟩⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_A_0 c _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexact H4
          · rw [PhiS_castSucc m hO c t, PhiS_pos m hO c _ _ hz, PhiT0_eq]
            rw [outsAt0_A m hO c t h0 h1 h2 h3]
            unfold sout0_A_0
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0).2 Set.univ _)
            isplitl [H0]; · iexact H0
            isplitl [H1]; · iexact H1
            isplitl [H2]; · iexact H2
            isplitl [H3]; · iexact H3
            isplitl [H4]; · iexists _; iexact H4
            isplitl [HS0]; · iexists _; iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_A_0 c _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexact H4
    · by_cases h2 : 1 ≤ t.val % 7
      · by_cases h3 : t.val % 7 = 6
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          by_cases hz : t.val = 0
          · exfalso; have hN : t.val < 504 := lt_of_lt_of_eq t.isLt (show (cfgM m hO).N = 504 from N_0); omega
          · rw [PhiS_castSucc m hO c t, PhiS_pos m hO c _ _ hz, PhiT0_eq]
            rw [outsAt0_D m hO c t h0 h1 h2 h3]
            unfold sout0_D_0
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            obtain rfl := hd ⟨_, h0⟩
            iapply ((kernelRun0_D c (grid0.coords t) _ _ _ _ _ _ _ _ _ _ _ _ (fun h => h1 ((hcond0_1 t).mp h)) ((hcond0_2 t).mpr h2) ((hcond0_3 t).mpr h3) (iblk m hO c 0 t) (iblk m hO c 1 t) (iblk m hO c 2 t) (iblk m hO c 3 t) (tbl m 0) (tbl m 1) _ h0).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_D_0 c _ _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexact H4
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          by_cases hz : t.val = 0
          · exfalso; have hN : t.val < 504 := lt_of_lt_of_eq t.isLt (show (cfgM m hO).N = 504 from N_0); omega
          · rw [PhiS_castSucc m hO c t, PhiS_pos m hO c _ _ hz, PhiT0_eq]
            rw [outsAt0_C m hO c t h0 h1 h2 h3]
            unfold sout0_C_0
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            obtain rfl := hd ⟨_, h0⟩
            iapply ((kernelRun0_C c (grid0.coords t) _ _ _ _ _ _ _ _ _ _ _ _ (fun h => h1 ((hcond0_1 t).mp h)) ((hcond0_2 t).mpr h2) (fun h => h3 ((hcond0_3 t).mp h)) (iblk m hO c 0 t) (iblk m hO c 1 t) (iblk m hO c 2 t) (iblk m hO c 3 t) (tbl m 0) (tbl m 1) _ h0).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_C_0 c _ _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexact H4
      · exfalso; omega
  · by_cases h3 : t.val % 7 = 6
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      by_cases hz : t.val = 0
      · exfalso; have hN : t.val < 504 := lt_of_lt_of_eq t.isLt (show (cfgM m hO).N = 504 from N_0); omega
      · rw [PhiS_castSucc m hO c t, PhiS_pos m hO c _ _ hz, PhiT0_eq]
        rw [outsAt0_E m hO c t h0 h3]
        unfold sout0_E_0
        iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
        iapply ((kernelRun0_E c (grid0.coords t) _ _ _ _ _ _ _ _ _ _ _ _ ((hcond0_3 t).mpr h3) (iblk m hO c 0 t) (iblk m hO c 1 t) (iblk m hO c 2 t) (iblk m hO c 3 t) (tbl m 0) (tbl m 1) _ h0).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexists _; isplitr
              swap; · iexact HS0
              ipureintro; exact hd
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      by_cases hz : t.val = 0
      · rw [PhiS_castSucc m hO c t, PhiS_zero m hO c _ _ hz, PhiT0_eq, PhiA0_eq]
        iintro ⟨⟨⟨⟨%ds, HS0⟩, Hg⟩, ⟨HT0, HT1⟩⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h3 ((hcond0_3 t).mp h)) (iblk m hO c 0 t) (iblk m hO c 1 t) (iblk m hO c 2 t) (iblk m hO c 3 t) (tbl m 0) (tbl m 1) _ h0).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexists _; isplitr
              swap; · iexact HS0
              ipureintro; exact fun u => absurd (used_first m hO t hz u) h0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · rw [PhiS_castSucc m hO c t, PhiS_pos m hO c _ _ hz, PhiT0_eq]
        rw [outsAt0_B m hO c t h0 h3 (by omega)]
        unfold sout0_B_0
        iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h3 ((hcond0_3 t).mp h)) (iblk m hO c 0 t) (iblk m hO c 1 t) (iblk m hO c 2 t) (iblk m hO c 3 t) (tbl m 0) (tbl m 1) _ h0).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexists _; isplitr
              swap; · iexact HS0
              ipureintro; exact hd
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- The start of the run gives what the first point needs. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨%ds, %hd, HS0⟩, Hg⟩, -⟩
  isplitl [HS0]
  · iexists _; iexact HS0
  iexact Hg

/-- The last point gives the scratch back. -/
theorem hout (hO : Ok m) (c : Dev nD) : (dats m hO 0 c).Φ (Fin.last (cfgM m hO).N) ⊢ Pipeline.ΦA spec0 c :=
  Phi_out m hO c _ (by rw [Fin.val_last]; have : (cfgM m hO).N = 504 := N_0; omega)

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hin := hin m hO) (hout := hout m hO)

/-- The run of the kernel: the arrays end as the points leave them. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- The kernel runs to the end and keeps its arguments. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- The kernel runs to the end, keeps its arguments and leaves every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel3.Experts

end
-- ==== Proof.ExpertsIdeal.Points.lean ====
/-
  When the expert layer's windows move: point `t` of the grid works on block of rows `t / 7` and on slice `t % 7` of the
  experts' features; the rows are fetched at a block's first point, the result is written back at its last one.
-/
module

public import proofs.«01_k».proof.Proof.Gen.Kernel3Ideal
public import Idealize.ShloMosaic.Lib.Pipeline.Kit

@[expose] public section

noncomputable section

namespace Cert.Kernel3Ideal.Experts

open Cert.Kernel3Ideal Cert.Kernel3Ideal.Gen

open Idealize.ShloMosaic Idealize.ShloMosaic.TcCoe
open Idealize.SL Idealize.SL.Sem

variable {F : FTy → Type} [FloatOps F]

/-- The rows are fetched at a block's first point. -/
theorem fetch0_0 (a : (pcfg0 (F := F)).Adm) : ∀ t : Fin (cfg0 a).N, ((cfg0 a).win 0).fetch t = true ↔ t.val % 7 = 0 :=
  (fun t => Pipeline.Window.fetchOf_reads cc0_transform_0 reads0_0 hreads0_0 0 (by decide) (by decide) (Pipeline.Window.sep_of_coord cc0_transform_0 0 0 (fun _ => rfl) (by decide)) (P := 7) (by decide) t : ∀ t : Fin grid0.N, Pipeline.Window.fetchOf grid0 false cc0_transform_0 t = true ↔ t.val % 7 = 0)
/-- The result is written back at a block's last point. -/
theorem flush0_4 (a : (pcfg0 (F := F)).Adm) : ∀ t : Fin (cfg0 a).N, ((cfg0 a).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_swiglu_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

end Cert.Kernel3Ideal.Experts

end
-- ==== Proof.ExpertsIdeal.Runs.lean ====
/-
  The set-up of the expert layer's run: what the launch holds before the kernel starts, the two tables of integers (which
  expert a block of rows names, and how many blocks are in use), the conditions the body branches on, read as statements
  about the point's number, and when the result's window is stored.
-/
module

public import proofs.«01_k».proof.Proof.Gen.Kernel3Ideal.Launch
public import proofs.«01_k».proof.Proof.Gen.Kernel3Ideal.Skeleton
public import proofs.«01_k».proof.Proof.ExpertsIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What buffer `b` holds when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The contents of the two tables. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window the tables pick lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S72 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w`'s array that point `t` reads. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From a run of the kernel: its arguments are kept. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

abbrev cond0_0 (i : grid0.Coords) (v0 : BitVec 32) : Prop := (Scalar.cmpi .ne (Scalar.extui (Scalar.cmpi .slt (BitVec.ofNat 32 (i 0).val) v0)) 0#32) = 1#1

/-- The slice is the first. -/
abbrev cond0_1 (i : grid0.Coords) : Prop := (Scalar.cmpi .ne (Scalar.extui (Scalar.cmpi .eq (BitVec.ofNat 32 (i 1).val) 0#32)) 0#32) = 1#1
theorem hcond0_1 : ∀ t : Fin grid0.N, cond0_1 (grid0.coords t) ↔ t.val % 7 = 0 :=
  (fun t => by
    have ht : t.val < 504 := Nat.lt_of_lt_of_eq t.isLt N_0
    have e0 : (grid0.coords t 0).val = t.val / 7 % 72 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

/-- The slice is not the first. -/
abbrev cond0_2 (i : grid0.Coords) : Prop := (Scalar.cmpi .ne (Scalar.extui (Scalar.cmpi .sgt (BitVec.ofNat 32 (i 1).val) 0#32)) 0#32) = 1#1
theorem hcond0_2 : ∀ t : Fin grid0.N, cond0_2 (grid0.coords t) ↔ 1 ≤ t.val % 7 :=
  (by decide +kernel : ∀ t : Fin grid0.N, cond0_2 (grid0.coords t) ↔ 1 ≤ t.val % 7)

/-- The grid's second coordinate is the last hidden slice. -/
abbrev cond0_3 (i : grid0.Coords) : Prop := (i 1).val = 6
theorem hcond0_3 : ∀ t : Fin grid0.N, cond0_3 (grid0.coords t) ↔ t.val % 7 = 6 :=
  (fun t => by
    have ht : t.val < 504 := Nat.lt_of_lt_of_eq t.isLt N_0
    have e1 : (grid0.coords t 1).val = t.val / 1 % 7 := Pipeline.Grid.coords_val t 1 (by decide) rfl
    simp only [cond0_3, e1, Nat.div_one])

theorem coord_block (t : Fin grid0.N) : (grid0.coords t 0).val = t.val / 7 := by
  have ht : t.val < 504 := Nat.lt_of_lt_of_eq t.isLt N_0
  have e0 : (grid0.coords t 0).val = t.val / 7 % 72 := Pipeline.Grid.coords_val t 0 (by decide) rfl
  omega

/-- The comparison the body makes of a block's number with a count, as a comparison of integers. -/
theorem below_iff (n : ℕ) (hn : n < 72) (w : BitVec 32) :
    (Scalar.cmpi .ne (Scalar.extui (Scalar.cmpi .slt (BitVec.ofNat 32 n) w) : BitVec 32) 0#32 = 1#1) ↔ (n : ℤ) < w.toInt := by
  have bits : ∀ b : BitVec 1, (Scalar.cmpi .ne (Scalar.extui b : BitVec 32) 0#32 = 1#1) ↔ b = 1#1 := by decide
  have hb : ∀ p : Bool, (BitVec.ofBool p = 1#1) ↔ p = true := by decide
  have hi : (BitVec.ofNat 32 n).toInt = n := by
    have hv : (BitVec.ofNat 32 n).toNat = n := by rw [BitVec.toNat_ofNat]; omega
    rw [BitVec.toInt_eq_toNat_of_lt (by omega), hv]
  rw [bits]
  show BitVec.ofBool (BitVec.slt (BitVec.ofNat 32 n) w) = 1#1 ↔ _
  rw [hb, BitVec.slt, decide_eq_true_eq, hi]

theorem cond0_0_iff (i : grid0.Coords) (w : BitVec 32) : cond0_0 i w ↔ ((i 0).val : ℤ) < w.toInt :=
  below_iff (i 0).val (i 0).isLt w

theorem last_cond : ∀ (b : BitVec 1) (j : Fin 7),
    (Scalar.cmpi .ne (Scalar.extui (Scalar.andi b (Scalar.cmpi .eq (BitVec.ofNat 32 j.val) 6#32)) : BitVec 32) 0#32 = 1#1)
      ↔ (Scalar.cmpi .ne (Scalar.extui b : BitVec 32) 0#32 = 1#1) ∧ j.val = 6 := by decide

theorem last_cond_not : ∀ (b : BitVec 1) (j : Fin 7),
    (Scalar.cmpi .ne (Scalar.extui (Scalar.andi (Scalar.xori b 1#1) (Scalar.cmpi .eq (BitVec.ofNat 32 j.val) 6#32)) : BitVec 32) 0#32 = 1#1)
      ↔ ¬(Scalar.cmpi .ne (Scalar.extui b : BitVec 32) 0#32 = 1#1) ∧ j.val = 6 := by decide

/-- The accumulated block is stored where the block of rows is in use and the hidden slice is the last. -/
theorem cond4_iff (i : grid0.Coords) (w : BitVec 32) : k0_cond4 i w = 1#1 ↔ cond0_0 i w ∧ cond0_3 i :=
  last_cond _ (i 1)

/-- Zeros are stored where the block of rows is not in use and the hidden slice is the last. -/
theorem cond5_iff (i : grid0.Coords) (w : BitVec 32) : k0_cond5 i w = 1#1 ↔ ¬cond0_0 i w ∧ cond0_3 i :=
  last_cond_not _ (i 1)

theorem cond4_of (i : grid0.Coords) (w : BitVec 32) (h0 : cond0_0 i w) (h3 : cond0_3 i) : k0_cond4 i w = 1#1 :=
  (cond4_iff i w).mpr ⟨h0, h3⟩
theorem not_cond4_of (i : grid0.Coords) (w : BitVec 32) (h0 : ¬cond0_0 i w) : ¬k0_cond4 i w = 1#1 :=
  fun h => h0 ((cond4_iff i w).mp h).1
theorem not_cond4_of_mid (i : grid0.Coords) (w : BitVec 32) (h3 : ¬cond0_3 i) : ¬k0_cond4 i w = 1#1 :=
  fun h => h3 ((cond4_iff i w).mp h).2
theorem cond5_of (i : grid0.Coords) (w : BitVec 32) (h0 : ¬cond0_0 i w) (h3 : cond0_3 i) : k0_cond5 i w = 1#1 :=
  (cond5_iff i w).mpr ⟨h0, h3⟩
theorem not_cond5_of (i : grid0.Coords) (w : BitVec 32) (h0 : cond0_0 i w) : ¬k0_cond5 i w = 1#1 :=
  fun h => ((cond5_iff i w).mp h).1 h0
theorem not_cond5_of_mid (i : grid0.Coords) (w : BitVec 32) (h3 : ¬cond0_3 i) : ¬k0_cond5 i w = 1#1 :=
  fun h => h3 ((cond5_iff i w).mp h).2

theorem idle_bits : ∀ a b : BitVec 1, ¬a = 1#1 → ¬b = 1#1 → (!(a == 1#1) && !(b == 1#1)) = true := by decide
theorem live_bits_left : ∀ a b : BitVec 1, a = 1#1 → (!(a == 1#1) && !(b == 1#1)) = false := by decide
theorem live_bits_right : ∀ a b : BitVec 1, b = 1#1 → (!(a == 1#1) && !(b == 1#1)) = false := by decide

/-- The result's window is left alone away from the last hidden slice, whatever the tables hold. -/
theorem idle0_4_mid (pf : pre0.Contents (Elt F)) (i : grid0.Coords) (h3 : ¬cond0_3 i) : idle0 pf 4 i = true :=
  idle_bits _ _ (not_cond4_of_mid i _ h3) (not_cond5_of_mid i _ h3)

/-- The result's window is stored at the last hidden slice, whatever the tables hold. -/
theorem idle0_4_last (pf : pre0.Contents (Elt F)) (i : grid0.Coords) (h3 : cond0_3 i) : idle0 pf 4 i = false :=
  (Classical.em (cond0_0 i (pf.atD 1 ![0]))).elim
    (fun h0 => live_bits_left _ _ (cond4_of i _ h0 h3))
    (fun h0 => live_bits_right _ _ (cond5_of i _ h0 h3))

theorem liveAt0_0 (hO : Ok m) : ∀ t : Fin (cfgM m hO).N, (cfgM m hO).idle 0 (grid0.coords t) = false :=
  fun _ => rfl
theorem liveAt0_1 (hO : Ok m) : ∀ t : Fin (cfgM m hO).N, (cfgM m hO).idle 1 (grid0.coords t) = false :=
  fun _ => rfl
theorem liveAt0_2 (hO : Ok m) : ∀ t : Fin (cfgM m hO).N, (cfgM m hO).idle 2 (grid0.coords t) = false :=
  fun _ => rfl
theorem liveAt0_3 (hO : Ok m) : ∀ t : Fin (cfgM m hO).N, (cfgM m hO).idle 3 (grid0.coords t) = false :=
  fun _ => rfl
theorem idleAt0_4_A (hO : Ok m) : ∀ t : Fin (cfgM m hO).N, cond0_1 (grid0.coords t) → ¬cond0_2 (grid0.coords t) → ¬cond0_3 (grid0.coords t) → (cfgM m hO).idle 4 (grid0.coords t) = true :=
  fun t _ _ h3 => idle0_4_mid (tbl m) (grid0.coords t) h3
theorem noFlush0_4_A (hO : Ok m) : ∀ t : Fin (cfgM m hO).N, cond0_1 (grid0.coords t) → ¬cond0_2 (grid0.coords t) → ¬cond0_3 (grid0.coords t) → ((cfgM m hO).win 4).flush t = false :=
  (by decide +kernel : ∀ t : Fin grid0.N, cond0_1 (grid0.coords t) → ¬cond0_2 (grid0.coords t) → ¬cond0_3 (grid0.coords t) → Pipeline.Window.flushOf grid0 true cc0_transform_4 t = false)
theorem idleAt0_4_B (hO : Ok m) : ∀ t : Fin (cfgM m hO).N, ¬cond0_3 (grid0.coords t) → (cfgM m hO).idle 4 (grid0.coords t) = true :=
  fun t h3 => idle0_4_mid (tbl m) (grid0.coords t) h3
theorem noFlush0_4_B (hO : Ok m) : ∀ t : Fin (cfgM m hO).N, ¬cond0_3 (grid0.coords t) → ((cfgM m hO).win 4).flush t = false :=
  (by decide +kernel : ∀ t : Fin grid0.N, ¬cond0_3 (grid0.coords t) → Pipeline.Window.flushOf grid0 true cc0_transform_4 t = false)
theorem idleAt0_4_C (hO : Ok m) : ∀ t : Fin (cfgM m hO).N, ¬cond0_1 (grid0.coords t) → cond0_2 (grid0.coords t) → ¬cond0_3 (grid0.coords t) → (cfgM m hO).idle 4 (grid0.coords t) = true :=
  fun t _ _ h3 => idle0_4_mid (tbl m) (grid0.coords t) h3
theorem noFlush0_4_C (hO : Ok m) : ∀ t : Fin (cfgM m hO).N, ¬cond0_1 (grid0.coords t) → cond0_2 (grid0.coords t) → ¬cond0_3 (grid0.coords t) → ((cfgM m hO).win 4).flush t = false :=
  (by decide +kernel : ∀ t : Fin grid0.N, ¬cond0_1 (grid0.coords t) → cond0_2 (grid0.coords t) → ¬cond0_3 (grid0.coords t) → Pipeline.Window.flushOf grid0 true cc0_transform_4 t = false)
theorem liveAt0_4_D (hO : Ok m) : ∀ t : Fin (cfgM m hO).N, ¬cond0_1 (grid0.coords t) → cond0_2 (grid0.coords t) → cond0_3 (grid0.coords t) → (cfgM m hO).idle 4 (grid0.coords t) = false :=
  fun t _ _ h3 => idle0_4_last (tbl m) (grid0.coords t) h3
theorem liveAt0_4_E (hO : Ok m) : ∀ t : Fin (cfgM m hO).N, cond0_3 (grid0.coords t) → (cfgM m hO).idle 4 (grid0.coords t) = false :=
  fun t h3 => idle0_4_last (tbl m) (grid0.coords t) h3

abbrev VO0_4 : View sig .tc .vmem S512x1024 .f32 := (Memref.whole cc0_stg4_0 : Memref sig .tc .vmem S512x1024 .f32).view
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- Some block of rows is in use: the count the second table holds is positive. -/
def Used : Prop := ∃ i : grid0.Coords, cond0_0 i (tbM0_1.view.readAt (Elt F) (Rect.unit (s := S1) ![0] S1.size inb_S1_S1_0).toLoadRect (tbl m 1) (Shape.Idx.first (numel1_S1.symm ▸ Nat.one_pos)))

/-- Where any block is in use the first one is. -/
theorem used_first (hO : Ok m) (t : Fin (cfgM m hO).N) (hz : t.val = 0) (hU : Used m) :
    cond0_0 (grid0.coords t) (tbM0_1.view.readAt (Elt F) (Rect.unit (s := S1) ![0] S1.size inb_S1_S1_0).toLoadRect (tbl m 1) (Shape.Idx.first (numel1_S1.symm ▸ Nat.one_pos))) := by
  obtain ⟨i, hi⟩ := hU
  have e0 : (grid0.coords t 0).val = t.val / 7 := coord_block t
  rw [cond0_0_iff] at hi ⊢
  have e1 : (grid0.coords t 0).val = 0 := by rw [e0, hz]
  have := (i 0).isLt
  omega

abbrev scM0_0 : Memref sig .tc .vmem S512x1024 .f32 := Memref.whole cc0_scratch0
abbrev VS0_0 : View sig .tc .vmem S512x1024 .f32 := scM0_0.view

/-- The scratch the kernel starts with. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel3Ideal.Experts

end
-- ==== Proof.ExpertsIdeal.RunA.lean ====
/-
  The body at a point of kind A: the block is in use and the slice is the first, so the product starts the accumulator.
-/
module

public import proofs.«01_k».proof.Proof.ExpertsIdeal.Runs

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    Σ' (L4 : List (View.Piece (Elt F) S512x1024 .f32)), { LS0 : List (View.Piece (Elt F) S512x1024 .f32) //
      ∀ (xi4 : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨[], ?_, fun xi4 E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, Hk⟩
    obtain rfl := harg4.eq_unread hf0; obtain rfl := harg5.eq_unread hf1; obtain rfl := harg6.eq_unread hf2; obtain rfl := harg7.eq_unread hf3; obtain rfl := harg8.eq_unread hf4
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HT0]; · iexact HT0
    iexact HT1

end Cert.Kernel3Ideal.Experts

end
-- ==== Proof.ExpertsIdeal.RunB.lean ====
/-
  The body at a point of kind B: the block is not in use and the slice is not the last, so nothing is stored.
-/
module

public import proofs.«01_k».proof.Proof.ExpertsIdeal.RunA

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) :
    Σ' (L4 : List (View.Piece (Elt F) S512x1024 .f32)), { LS0 : List (View.Piece (Elt F) S512x1024 .f32) //
      ∀ (xi4 : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨[], [], fun xi4 E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HT0]; · iexact HT0
    iexact HT1

end Cert.Kernel3Ideal.Experts

end
-- ==== Proof.ExpertsIdeal.RunC.lean ====
/-
  The body at a point of kind C: the block is in use, the slice is neither first nor last, so the product is added to the
  accumulator.
-/
module

public import proofs.«01_k».proof.Proof.ExpertsIdeal.RunB

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) :
    Σ' (L4 : List (View.Piece (Elt F) S512x1024 .f32)), { LS0 : List (View.Piece (Elt F) S512x1024 .f32) //
      ∀ (xi4 : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi4 ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨[], ?_, fun xi4 E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0
    have hc4 := not_cond4_of_mid i (tbM0_1.view.readAt (Elt F) (Rect.unit (s := S1) ![0] S1.size inb_S1_S1_0).toLoadRect xt1 (Shape.Idx.first (numel1_S1.symm ▸ Nat.one_pos))) hc3
    have hc5 := not_cond5_of_mid i (tbM0_1.view.readAt (Elt F) (Rect.unit (s := S1) ![0] S1.size inb_S1_S1_0).toLoadRect xt1 (Shape.Idx.first (numel1_S1.symm ▸ Nat.one_pos))) hc3
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HT0]; · iexact HT0
    iexact HT1

end Cert.Kernel3Ideal.Experts

end
-- ==== Proof.ExpertsIdeal.RunD.lean ====
/-
  The body at a point of kind D: the block is in use and the slice is the last, so the product is added and the accumulator
  is stored as the result.
-/
module

public import proofs.«01_k».proof.Proof.ExpertsIdeal.RunC

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) :
    Σ' (L4 : List (View.Piece (Elt F) S512x1024 .f32)), { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨?_, ?_, fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := cond4_of i _ hc0 hc3
    have hc5 := not_cond5_of i _ hc0
    sl_exec (disch := first | sl_exact hc4 | sl_exact hc5 | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HT0]; · iexact HT0
    iexact HT1

end Cert.Kernel3Ideal.Experts

end
-- ==== Proof.ExpertsIdeal.RunE.lean ====
/-
  The body at a point of kind E: the block is not in use and the slice is the last, so zeros are stored as the result.
-/
module

public import proofs.«01_k».proof.Proof.ExpertsIdeal.RunD

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_E (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) :
    Σ' (L4 : List (View.Piece (Elt F) S512x1024 .f32)), { LS0 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ owns (c : Thread nD τ) arg9 fullShare xs0 ∗ tbPt0 c tbM0_0 xt0 ∗ tbPt0 c tbM0_1 xt1) -∗ K ⟨⟩))
          ⊢ wp frame (wpE (defs₀ (F := F)) Variants.none c none) E (cc0_swiglu_experts i tbM0_0 htbM0_0 tbM0_1 htbM0_1 arg4 harg4 arg5 harg5 arg6 harg6 arg7 harg7 arg8 harg8 arg9 harg9) K } := by
  refine ⟨?_, [], fun E K => ?run⟩
  case run =>
    simp only [cc0_swiglu_experts_eq_skeleton]; unfold cc0_swiglu_experts_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, Hk⟩
    obtain rfl := harg4.eq_unread hf0; obtain rfl := harg5.eq_unread hf1; obtain rfl := harg6.eq_unread hf2; obtain rfl := harg7.eq_unread hf3; obtain rfl := harg9.eq_unread hfs0
    have hc4 := not_cond4_of i _ hc0
    have hc5 := cond5_of i _ hc0 hc3
    sl_exec (disch := first | sl_exact hc4 | sl_exact hc5 | sl_exact hc0 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HT0]; · iexact HT0
    iexact HT1

end Cert.Kernel3Ideal.Experts

end
-- ==== Proof.ExpertsIdeal.Frame.lean ====
/-
  The whole run of the expert layer: what every point leaves in the result's window and in the accumulator, by recursion on
  the points, and from it that the kernel runs to the end, keeps its arguments and leaves its counters at zero. Before the
  first point that is in use the accumulator holds anything; after it, what the recursion says.
-/
module

public import proofs.«01_k».proof.Proof.ExpertsIdeal.RunE
public import Idealize.ShloMosaic.Lib.Claim

@[expose] public section

set_option maxRecDepth 16384

noncomputable section

namespace Cert.Kernel3Ideal.Experts

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def out0_A_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_A c i arg4 harg4 arg5 harg5 arg6 harg6 arg7 harg7 arg8 harg8 arg9 harg9 hc1 hc2 hc3 x0 x1 x2 x3 xt0 xt1 hc0).1)

theorem scover0_A_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 hc1 hc2 hc3 x0 x1 x2 x3 xt0 xt1 hc0).2.1, y ∈ pc.1.set :=
  View.cover_of_tiledL (kernelRun0_A c i arg4 harg4 arg5 harg5 arg6 harg6 arg7 harg7 arg8 harg8 arg9 harg9 hc1 hc2 hc3 x0 x1 x2 x3 xt0 xt1 hc0).2.1 S512x1024.size (by sl_kernel_rfl) y

def sout0_A_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : cond0_1 i) (hc2 : ¬cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_A c i arg4 harg4 arg5 harg5 arg6 harg6 arg7 harg7 arg8 harg8 arg9 harg9 hc1 hc2 hc3 x0 x1 x2 x3 xt0 xt1 hc0).2.1)

def out0_B_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_B c i arg4 harg4 arg5 harg5 arg6 harg6 arg7 harg7 arg8 harg8 arg9 harg9 hc3 x0 x1 x2 x3 xt0 xt1 xs0 hc0).1)

def sout0_B_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 := xs0

def out0_C_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_C c i arg4 harg4 arg5 harg5 arg6 harg6 arg7 harg7 arg8 harg8 arg9 harg9 hc1 hc2 hc3 x0 x1 x2 x3 xt0 xt1 xs0 hc0).1)

theorem scover0_C_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 hc1 hc2 hc3 x0 x1 x2 x3 xt0 xt1 xs0 hc0).2.1, y ∈ pc.1.set :=
  View.cover_of_tiledL (kernelRun0_C c i arg4 harg4 arg5 harg5 arg6 harg6 arg7 harg7 arg8 harg8 arg9 harg9 hc1 hc2 hc3 x0 x1 x2 x3 xt0 xt1 xs0 hc0).2.1 S512x1024.size (by sl_kernel_rfl) y

def sout0_C_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : ¬cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_C c i arg4 harg4 arg5 harg5 arg6 harg6 arg7 harg7 arg8 harg8 arg9 harg9 hc1 hc2 hc3 x0 x1 x2 x3 xt0 xt1 xs0 hc0).2.1)

theorem cover0_D_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 hc1 hc2 hc3 x0 x1 x2 x3 xt0 xt1 xs0 hc0).1, y ∈ pc.1.set :=
  View.cover_of_tiledL (kernelRun0_D c i arg4 harg4 arg5 harg5 arg6 harg6 arg7 harg7 arg8 harg8 arg9 harg9 hc1 hc2 hc3 x0 x1 x2 x3 xt0 xt1 xs0 hc0).1 S512x1024.size (by sl_kernel_rfl) y

def out0_D_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_D c i arg4 harg4 arg5 harg5 arg6 harg6 arg7 harg7 arg8 harg8 arg9 harg9 hc1 hc2 hc3 x0 x1 x2 x3 xt0 xt1 xs0 hc0).1)

theorem scover0_D_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 hc1 hc2 hc3 x0 x1 x2 x3 xt0 xt1 xs0 hc0).2.1, y ∈ pc.1.set :=
  View.cover_of_tiledL (kernelRun0_D c i arg4 harg4 arg5 harg5 arg6 harg6 arg7 harg7 arg8 harg8 arg9 harg9 hc1 hc2 hc3 x0 x1 x2 x3 xt0 xt1 xs0 hc0).2.1 S512x1024.size (by sl_kernel_rfl) y

def sout0_D_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc1 : ¬cond0_1 i) (hc2 : cond0_2 i) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VS0_0.read (Elt F) (VS0_0.writes (Elt F) VS0_0.junk (kernelRun0_D c i arg4 harg4 arg5 harg5 arg6 harg6 arg7 harg7 arg8 harg8 arg9 harg9 hc1 hc2 hc3 x0 x1 x2 x3 xt0 xt1 xs0 hc0).2.1)

theorem cover0_E_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_E c i arg4 harg4 arg5 harg5 arg6 harg6 arg7 harg7 arg8 harg8 arg9 harg9 hc3 x0 x1 x2 x3 xt0 xt1 xs0 hc0).1, y ∈ pc.1.set :=
  View.cover_of_tiledL (kernelRun0_E c i arg4 harg4 arg5 harg5 arg6 harg6 arg7 harg7 arg8 harg8 arg9 harg9 hc3 x0 x1 x2 x3 xt0 xt1 xs0 hc0).1 S512x1024.size (by sl_kernel_rfl) y

def out0_E_4 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_E c i arg4 harg4 arg5 harg5 arg6 harg6 arg7 harg7 arg8 harg8 arg9 harg9 hc3 x0 x1 x2 x3 xt0 xt1 xs0 hc0).1)

def sout0_E_0 (c : Dev nD) (i : grid0.Coords) (arg4 : Memref sig .tc .vmem S512x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .f32) (harg9 : arg9.IsWhole) (hc3 : cond0_3 i)
    (x0 : Vec F S512x1024 .bf16) (x1 : Vec F S1x1024x512 .bf16) (x2 : Vec F S1x1024x512 .bf16) (x3 : Vec F S1x512x1024 .bf16) (xt0 : TbBuf0 (F := F) c tbM0_0) (xt1 : TbBuf0 (F := F) c tbM0_1) (xs0 : Vec F S512x1024 .f32) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 := xs0

/-- What point `n` leaves: the result's window and the accumulator. -/
def outsAt0 (hO : Ok m) (c : Dev nD) : (n : ℕ) → n < (cfgM m hO).N → Vec F S512x1024 .f32 × Vec F S512x1024 .f32
  | 0, hn => if h0 : cond0_0 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk) : Vec F S512x1024 .f32 × Vec F S512x1024 .f32).2 h0, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk) : Vec F S512x1024 .f32 × Vec F S512x1024 .f32).2 h0)
  | n + 1, hn =>
    if h0 : cond0_0 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h1 : (n + 1) % 7 = 0 then
        if h2 : 1 ≤ (n + 1) % 7 then
          False.elim (by have hN : n + 1 < 504 := lt_of_lt_of_eq hn (show (cfgM m hO).N = 504 from N_0); omega)
        else
          if h3 : (n + 1) % 7 = 6 then
            False.elim (by have hN : n + 1 < 504 := lt_of_lt_of_eq hn (show (cfgM m hO).N = 504 from N_0); omega)
          else
            (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_1 ⟨n + 1, hn⟩).mpr h1) (fun h => h2 ((hcond0_2 ⟨n + 1, hn⟩).mp h)) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_1 ⟨n + 1, hn⟩).mpr h1) (fun h => h2 ((hcond0_2 ⟨n + 1, hn⟩).mp h)) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0)
      else
        if h2 : 1 ≤ (n + 1) % 7 then
          if h3 : (n + 1) % 7 = 6 then
            (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0)
          else
            (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h1 ((hcond0_1 ⟨n + 1, hn⟩).mp h)) ((hcond0_2 ⟨n + 1, hn⟩).mpr h2) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0)
        else
          False.elim (by have hN : n + 1 < 504 := lt_of_lt_of_eq hn (show (cfgM m hO).N = 504 from N_0); omega)
    else
      if h3 : (n + 1) % 7 = 6 then
        (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0)
      else
        (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h0)

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : t.val % 7 = 0) (h2 : ¬1 ≤ t.val % 7) (h3 : ¬t.val % 7 = 6) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0) := by
  obtain ⟨n, hn⟩ := t
  cases n with
  | zero => exact (dif_pos h0).trans rfl
  | succ n => exact (dif_pos h0).trans ((dif_pos h1).trans ((dif_neg h2).trans ((dif_neg h3).trans rfl)))

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h3 : ¬t.val % 7 = 6) (hq0B : ¬(t.val % 504 = 0)) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0) := by
  obtain ⟨n, hn⟩ := t
  cases n with
  | zero => exact (by exfalso; (try dsimp only at hq0B); exact by omega)
  | succ n => exact (dif_neg h0).trans ((dif_neg h3).trans rfl)

theorem outsAt0_C (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬t.val % 7 = 0) (h2 : 1 ≤ t.val % 7) (h3 : ¬t.val % 7 = 6) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) (fun h => h3 ((hcond0_3 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

theorem outsAt0_D (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬t.val % 7 = 0) (h2 : 1 ≤ t.val % 7) (h3 : t.val % 7 = 6) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h1 ((hcond0_1 t).mp h)) ((hcond0_2 t).mpr h2) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0) := by
  obtain ⟨n, hn⟩ := t
  cases n with
  | zero => exact (by exfalso; (try dsimp only at h1); exact absurd (Nat.zero_mod _) h1)
  | succ n => exact (dif_pos h0).trans ((dif_neg h1).trans ((dif_pos h2).trans ((dif_pos h3).trans rfl)))

theorem outsAt0_E (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h3 : t.val % 7 = 6) :
    outsAt0 m hO c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_3 t).mpr h3) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h0) := by
  obtain ⟨n, hn⟩ := t
  cases n with
  | zero => exact (by exfalso; (try dsimp only at h3); exact by omega)
  | succ n => exact (dif_neg h0).trans ((dif_pos h3).trans rfl)

/-- What is known of the accumulator before point `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(∃ d, iprop(⌜Used m → d = (outsAt0 m hO c n hn).2⌝ ∗ owns (c : Thread nD τ) scM0_0 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(∃ d, iprop(⌜Used m → d = (outsAt0 m hO c n hn).2⌝ ∗ owns (c : Thread nD τ) scM0_0 fullShare d)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(∃ d, iprop(⌜Used m → d = (outsAt0 m hO c (n - 1) (by omega)).2⌝ ∗ owns (c : Thread nD τ) scM0_0 fullShare d)) ∗ (∃ r, prngReg c r)) ∗ Pipeline.ΦT pre0 (tbl m) c) := by
  cases n with
  | zero => exact absurd rfl hz
  | succ n => rfl

/-- The data of the run: what every window holds after every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What holds before point `t`'s body. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What holds after point `t`'s body. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 8000000 in
/-- The body takes what holds before a point to what holds after it, one kind of point after the other. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 504 := lt_of_lt_of_eq t.isLt (show (cfgM m hO).N = 504 from N_0)
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · by_cases h1 : t.val % 7 = 0
    · by_cases h2 : 1 ≤ t.val % 7
      · exfalso; omega
      · by_cases h3 : t.val % 7 = 6
        · exfalso; omega
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [Dat.leavesExact_idle (dats m hO 0 c) 4 t (idleAt0_4_A m hO t ((hcond0_1 t).mpr h1) (fun h => h2 ((hcond0_2 t).mp h)) (fun h => h3 ((hcond0_3 t).mp h))) (noFlush0_4_A m hO t ((hcond0_1 t).mpr h1) (fun h => h2 ((hcond0_2 t).mp h)) (fun h => h3 ((hcond0_3 t).mp h)))]
          by_cases hz : t.val = 0
          · rw [PhiS_castSucc m hO c t, PhiS_zero m hO c _ _ hz, PhiT0_eq, PhiA0_eq]
            rw [outsAt0_A m hO c t h0 h1 h2 h3]
            unfold sout0_A_0; (try dsimp only)
            iintro ⟨⟨⟨HS0, Hg⟩, ⟨HT0, HT1⟩⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0).2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_A_0 c _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexists _; iexact H4
          · rw [PhiS_castSucc m hO c t, PhiS_pos m hO c _ _ hz, PhiT0_eq]
            rw [outsAt0_A m hO c t h0 h1 h2 h3]
            unfold sout0_A_0; (try dsimp only)
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ ((hcond0_1 t).mpr h1) (fun h => h2 ((hcond0_2 t).mp h)) (fun h => h3 ((hcond0_3 t).mp h)) (iblk m hO c 0 t) (iblk m hO c 1 t) (iblk m hO c 2 t) (iblk m hO c 3 t) (tbl m 0) (tbl m 1) h0).2.2 _ Set.univ _)
            isplitl [H0]; · iexact H0
            isplitl [H1]; · iexact H1
            isplitl [H2]; · iexact H2
            isplitl [H3]; · iexact H3
            isplitl [H4]; · iexact H4
            isplitl [HS0]; · iexists _; iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_A_0 c _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexists _; iexact H4
    · by_cases h2 : 1 ≤ t.val % 7
      · by_cases h3 : t.val % 7 = 6
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [show (dats m hO 0 c).leavesExact 4 t = owns (c : Thread nD τ) (ms0_4 m hO t) fullShare ((dats m hO 0 c).after 4 t) from by
      unfold Dat.leavesExact; rw [liveAt0_4_D m hO t (fun h => h1 ((hcond0_1 t).mp h)) ((hcond0_2 t).mpr h2) ((hcond0_3 t).mpr h3)]; try rfl, after0_4]
          by_cases hz : t.val = 0
          · exfalso; have hN : t.val < 504 := lt_of_lt_of_eq t.isLt (show (cfgM m hO).N = 504 from N_0); omega
          · rw [PhiS_castSucc m hO c t, PhiS_pos m hO c _ _ hz, PhiT0_eq]
            rw [outsAt0_D m hO c t h0 h1 h2 h3]
            unfold out0_D_4 sout0_D_0; (try dsimp only)
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            obtain rfl := hd ⟨_, h0⟩
            iapply ((kernelRun0_D c (grid0.coords t) _ _ _ _ _ _ _ _ _ _ _ _ (fun h => h1 ((hcond0_1 t).mp h)) ((hcond0_2 t).mpr h2) ((hcond0_3 t).mpr h3) (iblk m hO c 0 t) (iblk m hO c 1 t) (iblk m hO c 2 t) (iblk m hO c 3 t) (tbl m 0) (tbl m 1) _ h0).2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HT0]; · iexact HT0
            isplitl [HT1]; · iexact HT1
            iintro ⟨H0, H1, H2, H3, ⟨%e4, H4⟩, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_D_0 c _ _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_D_4 c _ _ _ _ _ _ _ _ _ _ _ _ _ _ _ _ _ _ _ _ _ _ _ _)
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [Dat.leavesExact_idle (dats m hO 0 c) 4 t (idleAt0_4_C m hO t (fun h => h1 ((hcond0_1 t).mp h)) ((hcond0_2 t).mpr h2) (fun h => h3 ((hcond0_3 t).mp h))) (noFlush0_4_C m hO t (fun h => h1 ((hcond0_1 t).mp h)) ((hcond0_2 t).mpr h2) (fun h => h3 ((hcond0_3 t).mp h)))]
          by_cases hz : t.val = 0
          · exfalso; have hN : t.val < 504 := lt_of_lt_of_eq t.isLt (show (cfgM m hO).N = 504 from N_0); omega
          · rw [PhiS_castSucc m hO c t, PhiS_pos m hO c _ _ hz, PhiT0_eq]
            rw [outsAt0_C m hO c t h0 h1 h2 h3]
            unfold sout0_C_0; (try dsimp only)
            iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
            obtain rfl := hd ⟨_, h0⟩
            iapply ((kernelRun0_C c (grid0.coords t) _ _ _ _ _ _ _ _ _ _ _ _ (fun h => h1 ((hcond0_1 t).mp h)) ((hcond0_2 t).mpr h2) (fun h => h3 ((hcond0_3 t).mp h)) (iblk m hO c 0 t) (iblk m hO c 1 t) (iblk m hO c 2 t) (iblk m hO c 3 t) (tbl m 0) (tbl m 1) _ h0).2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HT0]; · iexact HT0
            isplitl [HT1]; · iexact HT1
            iintro ⟨H0, H1, H2, H3, H4, ⟨%es0, HS0⟩, HT0, HT1⟩
            isplitl [HS0 Hg HT0 HT1]
            · isplitl [HS0 Hg]
              · isplitl [HS0]
                · iexists _; isplitr
                  · ipureintro; exact fun _ => rfl
                  unfold owns; iexists _; isplitr
                  swap; · iexact HS0
                  ipureintro; exact View.read_writes_of_cover _ _ _ _ _ (scover0_C_0 c _ _ _ _ _ _ _ _ _ _ _ _ _ _ _ _ _ _ _ _ _ _ _ _)
                iexact Hg
              isplitl [HT0]; · iexact HT0
              iexact HT1
            isplitl [Ho]; · iexact Ho
            isplitl [H0]; · iexact H0
            isplitl [H1]; · iexact H1
            isplitl [H2]; · iexact H2
            isplitl [H3]; · iexact H3
            iexists _; iexact H4
      · exfalso; omega
  · by_cases h3 : t.val % 7 = 6
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4_E m hO t ((hcond0_3 t).mpr h3)]; try rfl, after0_4]
      by_cases hz : t.val = 0
      · exfalso; have hN : t.val < 504 := lt_of_lt_of_eq t.isLt (show (cfgM m hO).N = 504 from N_0); omega
      · rw [PhiS_castSucc m hO c t, PhiS_pos m hO c _ _ hz, PhiT0_eq]
        rw [outsAt0_E m hO c t h0 h3]
        unfold out0_E_4 sout0_E_0; (try dsimp only)
        iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
        iapply ((kernelRun0_E c (grid0.coords t) _ _ _ _ _ _ _ _ _ _ _ _ ((hcond0_3 t).mpr h3) (iblk m hO c 0 t) (iblk m hO c 1 t) (iblk m hO c 2 t) (iblk m hO c 3 t) (tbl m 0) (tbl m 1) _ h0).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, ⟨%e4, H4⟩, HS0, HT0, HT1⟩
        isplitl [HS0 Hg HT0 HT1]
        · isplitl [HS0 Hg]
          · isplitl [HS0]
            · iexists _; isplitr
              swap; · iexact HS0
              ipureintro; exact hd
            iexact Hg
          isplitl [HT0]; · iexact HT0
          iexact HT1
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_E_4 c _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [Dat.leavesExact_idle (dats m hO 0 c) 4 t (idleAt0_4_B m hO t (fun h => h3 ((hcond0_3 t).mp h))) (noFlush0_4_B m hO t (fun h => h3 ((hcond0_3 t).mp h)))]
      by_cases hz : t.val = 0
      · rw [PhiS_castSucc m hO c t, PhiS_zero m hO c _ _ hz, PhiT0_eq, PhiA0_eq]
        iintro ⟨⟨⟨⟨%ds, HS0⟩, Hg⟩, ⟨HT0, HT1⟩⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h3 ((hcond0_3 t).mp h)) (iblk m hO c 0 t) (iblk m hO c 1 t) (iblk m hO c 2 t) (iblk m hO c 3 t) (tbl m 0) (tbl m 1) _ h0).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexists _; isplitr
              swap; · iexact HS0
              ipureintro; exact fun u => absurd (used_first m hO t hz u) h0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4
      · rw [PhiS_castSucc m hO c t, PhiS_pos m hO c _ _ hz, PhiT0_eq]
        rw [outsAt0_B m hO c t h0 h3 (by omega)]
        unfold sout0_B_0; (try dsimp only)
        iintro ⟨⟨⟨⟨%ds, %hd, HS0⟩, Hg⟩, ⟨HT0, HT1⟩⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h3 ((hcond0_3 t).mp h)) (iblk m hO c 0 t) (iblk m hO c 1 t) (iblk m hO c 2 t) (iblk m hO c 3 t) (tbl m 0) (tbl m 1) _ h0).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexists _; isplitr
              swap; · iexact HS0
              ipureintro; exact hd
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The start of the run gives what the first point needs. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨%ds, %hd, HS0⟩, Hg⟩, -⟩
  isplitl [HS0]
  · iexists _; iexact HS0
  iexact Hg

/-- The last point gives the scratch back. -/
theorem hout (hO : Ok m) (c : Dev nD) : (dats m hO 0 c).Φ (Fin.last (cfgM m hO).N) ⊢ Pipeline.ΦA spec0 c :=
  Phi_out m hO c _ (by rw [Fin.val_last]; have : (cfgM m hO).N = 504 := N_0; omega)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The run of the kernel: the arrays end as the points leave them. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The kernel runs to the end and keeps its arguments. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The kernel runs to the end, keeps its arguments and leaves every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel3Ideal.Experts

end
-- ==== Proof.ExpertsIdeal.Words.lean ====
/-
  The two tables of integers, and the windows they pick: where every block names one of the eight experts, every window of
  the weights lies inside its array.
-/
module

public import proofs.«01_k».proof.Proof.ExpertsIdeal.Frame
public import Idealize.ShloMosaic.Lib.ValueIdxCore

/-! # The two prefetched tables

The first table names each block's expert, the second counts the blocks in use. -/

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- The word naming block `b`'s expert, and the count of the blocks in use. -/
abbrev expertWord (c : Dev nD) (b : Fin 72) : BitVec 32 := m ((c.tc : Thread nD τ).loc main_arg1) (ix1 b)
abbrev countWord (c : Dev nD) : BitVec 32 := m ((c.tc : Thread nD τ).loc main_arg2) (ix1 0)

/-- Every block names one of the eight experts. -/
abbrev Named : Prop := ∀ b : Fin 72, (expertWord m 0 b).toNat < 8

theorem index72 (y : S72.Idx) (b : Fin 72) (h : (y 0).val = b.val) : y = ix1 b := by
  funext a
  obtain rfl : a = 0 := Subsingleton.elim _ _
  exact Fin.ext h

theorem index1 (y : S1.Idx) : y = ix1 0 := by
  funext a
  obtain rfl : a = 0 := Subsingleton.elim _ _
  exact Fin.ext (Nat.lt_one_iff.mp (y 0).isLt)

theorem table0_at (y : S72.Idx) (b : Fin 72) (h : (y 0).val = b.val) : tbl m 0 y = expertWord m 0 b := by
  rw [index72 y b h]
  exact congrFun (V_main_arg1 m 0) (ix1 b)

theorem table1_at (y : S1.Idx) : tbl m 1 y = countWord m 0 := by
  rw [index1 y]
  exact congrFun (V_main_arg2 m 0) (ix1 0)

theorem count_read : tbM0_1.view.readAt (Elt F) (Rect.unit (s := S1) ![0] S1.size inb_S1_S1_0).toLoadRect (tbl m 1)
    (Shape.Idx.first (numel1_S1.symm ▸ Nat.one_pos)) = countWord m 0 :=
  table1_at m _

/-- The hidden slice that point `i` reads: its own where the block is in use, else the last. -/
abbrev sliceWord (i : grid0.Coords) : BitVec 32 :=
  Scalar.select (Scalar.cmpi .slt (BitVec.ofNat 32 (i 0).val) (countWord m 0)) (BitVec.ofNat 32 (i 1).val) 6#32

theorem first_coord (i : grid0.Coords) : (BitVec.ofNat 32 (i 0).val).toNat = (i 0).val := by
  have h : (i 0).val < 72 := (i 0).isLt
  rw [BitVec.toNat_ofNat]; omega
theorem second_coord (i : grid0.Coords) : (BitVec.ofNat 32 (i 1).val).toNat = (i 1).val := by
  have h : (i 1).val < 7 := (i 1).isLt
  rw [BitVec.toNat_ofNat]; omega

theorem slice_lt (i : grid0.Coords) : (sliceWord m i).toNat < 7 := by
  have h : (i 1).val < 7 := (i 1).isLt
  have := second_coord i
  unfold sliceWord Scalar.select
  split
  · omega
  · decide

theorem slice_used (i : grid0.Coords) (h : ((i 0).val : ℤ) < (countWord m 0).toInt) : (sliceWord m i).toNat = (i 1).val := by
  have bits : ∀ b : BitVec 1, (Scalar.cmpi .ne (Scalar.extui b : BitVec 32) 0#32 = 1#1) → b = 1#1 := by decide
  have e : Scalar.cmpi .slt (BitVec.ofNat 32 (i 0).val) (countWord m 0) = 1#1 := bits _ ((below_iff (i 0).val (i 0).isLt _).mpr h)
  unfold sliceWord
  rw [e]
  exact second_coord i

theorem seven_add (i : grid0.Coords) : (Scalar.addi 7#32 (sliceWord m i)).toNat = 7 + (sliceWord m i).toNat := by
  have := slice_lt m i
  show (7#32 + sliceWord m i).toNat = _
  rw [BitVec.toNat_add]
  have e : (7#32 : BitVec 32).toNat = 7 := rfl
  rw [e]; omega

theorem word_0 (i : grid0.Coords) :
    (tbl m).at 0 (Rect.unit (s := S72) ![(Scalar.indexCast (BitVec.ofNat 32 (i 0).val)).toNat] S1.size (k0_off1_inb i)) numel1_S1
      = expertWord m 0 (i 0) :=
  table0_at m _ (i 0) ((Nat.add_zero _).trans (first_coord i))

theorem word_1 : (tbl m).at 1 (Rect.unit (s := S1) ![0] S1.size inb_S1_S1_0) numel1_S1 = countWord m 0 := table1_at m _

theorem index_1 (i : grid0.Coords) : cc0_transform_1 k0_off1_inb numel1_S1 inb_S1_S1_0 (tbl m) i
    = ![(expertWord m 0 (i 0)).toNat, 0, (sliceWord m i).toNat] :=
  congrArg₂ (fun a b : BitVec 32 =>
    (![a.toNat, 0, (Scalar.select (Scalar.cmpi .slt (BitVec.ofNat 32 (i 0).val) b) (BitVec.ofNat 32 (i 1).val) 6#32).toNat] : Fin 3 → ℕ))
    (word_0 m i) (word_1 m)

theorem index_2 (i : grid0.Coords) : cc0_transform_2 k0_off1_inb numel1_S1 inb_S1_S1_0 (tbl m) i
    = ![(expertWord m 0 (i 0)).toNat, 0, 7 + (sliceWord m i).toNat] := by
  rw [← seven_add m i]
  exact congrArg₂ (fun a b : BitVec 32 =>
    (![a.toNat, 0, (Scalar.addi 7#32 (Scalar.select (Scalar.cmpi .slt (BitVec.ofNat 32 (i 0).val) b) (BitVec.ofNat 32 (i 1).val)
      6#32)).toNat] : Fin 3 → ℕ))
    (word_0 m i) (word_1 m)

theorem index_3 (i : grid0.Coords) : cc0_transform_3 k0_off1_inb numel1_S1 inb_S1_S1_0 (tbl m) i
    = ![(expertWord m 0 (i 0)).toNat, (sliceWord m i).toNat, 0] :=
  congrArg₂ (fun a b : BitVec 32 =>
    (![a.toNat, (Scalar.select (Scalar.cmpi .slt (BitVec.ofNat 32 (i 0).val) b) (BitVec.ofNat 32 (i 1).val) 6#32).toNat, 0] : Fin 3 → ℕ))
    (word_0 m i) (word_1 m)

/-- Where every block names an expert, every window lies in its array. -/
theorem ok_of_named (h : Named m) : Ok m := by
  refine ⟨fun i => ?_, fun i => ?_, fun i => ?_⟩
  · have hs := slice_lt m i
    have he := h (i 0)
    refine ⟨fun a => ?_, .inr (Affine.block_words_dvd (of_decide_eq_true rfl) (by decide))⟩
    rw [index_1]
    match a with
    | ⟨0, _⟩ => show ((expertWord m 0 (i 0)).toNat + 1) * 1 ≤ 8; omega
    | ⟨1, _⟩ => exact (of_decide_eq_true rfl : (0 + 1) * 1024 ≤ 1024)
    | ⟨2, _⟩ => show ((sliceWord m i).toNat + 1) * 512 ≤ 7168; omega
  · have hs := slice_lt m i
    have he := h (i 0)
    refine ⟨fun a => ?_, .inr (Affine.block_words_dvd (of_decide_eq_true rfl) (by decide))⟩
    rw [index_2]
    match a with
    | ⟨0, _⟩ => show ((expertWord m 0 (i 0)).toNat + 1) * 1 ≤ 8; omega
    | ⟨1, _⟩ => exact (of_decide_eq_true rfl : (0 + 1) * 1024 ≤ 1024)
    | ⟨2, _⟩ => show (7 + (sliceWord m i).toNat + 1) * 512 ≤ 7168; omega
  · have hs := slice_lt m i
    have he := h (i 0)
    refine ⟨fun a => ?_, .inr (Affine.block_words_dvd (of_decide_eq_true rfl) (by decide))⟩
    rw [index_3]
    match a with
    | ⟨0, _⟩ => show ((expertWord m 0 (i 0)).toNat + 1) * 1 ≤ 8; omega
    | ⟨1, _⟩ => show ((sliceWord m i).toNat + 1) * 512 ≤ 3584; omega
    | ⟨2, _⟩ => exact (of_decide_eq_true rfl : (0 + 1) * 1024 ≤ 1024)

end Cert.Kernel3Ideal.Experts
end
-- ==== Proof.ExpertsReference.lean ====
module

public import proofs.«01_k».proof.Proof.Gen.Reference3Ideal.Read
public import proofs.«01_k».proof.Proof.SwigluSpec

/-! # The reference of the routed experts, row by row

Block `b` of 512 rows goes through the expert that the block's word names; the blocks past the count are zero. -/

@[expose] public section

set_option maxRecDepth 16384

noncomputable section

open Idealize.ShloMosaic Idealize.ShloMosaic.TcCoe Idealize.SL.Sem

namespace Cert.Reference3Ideal.Experts

open Cert.Reference3Ideal Cert.Reference3Ideal.Gen Cert.Reference3Ideal.Read Cert.RowMath Cert.SwigluSpec

/-! ## One matrix out of a stack -/

section stack

variable {α : Type} {N K M B w : ℕ}

/-- The dimension numbers that pick, for each of `B` words, one `K × M` matrix of a stack of `N`. -/
abbrev stackDims (N K M B : ℕ) (wf : GatherDims.WF ⟨3, ![N, K, M]⟩ ⟨2, ![B, 1]⟩ ⟨3, ![B, K, M]⟩ [1, 2] [0] [] [0] [] 1 ![1, K, M]) :
    GatherDims ⟨3, ![N, K, M]⟩ ⟨2, ![B, 1]⟩ ⟨3, ![B, K, M]⟩ where
  offsetDims := [1, 2]
  collapsedSliceDims := [0]
  operandBatchingDims := []
  startIndicesBatchingDims := []
  startIndexMap := [0]
  indexVectorDim := 1
  sliceSizes := ![1, K, M]
  wf := wf

variable (wf : GatherDims.WF ⟨3, ![N, K, M]⟩ ⟨2, ![B, 1]⟩ ⟨3, ![B, K, M]⟩ [1, 2] [0] [] [0] [] 1 ![1, K, M])

/-- An entry of the picked matrices is that entry of the matrix the word names, the word read with its sign and kept inside the stack. -/
theorem stack_at (x : (⟨3, ![N, K, M]⟩ : Shape).Idx → α) (idx : IVec ⟨2, ![B, 1]⟩ w) (b : Fin B) (k : Fin K) (f : Fin M) (e : Fin N)
    (he : (e : ℕ) = min (idx (ix2 b 0)).toInt.toNat (N - 1)) :
    Host.gather (stackDims N K M B wf) x idx (ix3 b k f) = x (ix3 e k f) := by
  unfold Host.gather
  congr 1
  funext a
  refine Fin.ext ?_
  show (stackDims N K M B wf).start (ix3 b k f) idx a + (stackDims N K M B wf).batchCoord (ix3 b k f) a
    + (stackDims N K M B wf).offCoord (ix3 b k f) a = _
  rw [GatherDims.batchCoord_eq_zero _ _ _ List.not_mem_nil, Nat.add_zero]
  match a with
  | ⟨0, _⟩ =>
    have ho : (stackDims N K M B wf).offCoord (ix3 b k f) 0 = 0 :=
      GatherDims.offCoord_eq_zero _ _ _ (fun h => ((GatherDims.mem_sKept _ _).mp h).1 (List.mem_singleton.mpr rfl))
    have hs : (stackDims N K M B wf).start (ix3 b k f) idx 0 = min (idx (ix2 b 0)).toInt.toNat (N - 1) := by
      unfold GatherDims.start
      rw [dif_pos (show (0 : Fin 3) ∈ (stackDims N K M B wf).startIndexMap from List.mem_singleton.mpr rfl)]
      have hsi : (stackDims N K M B wf).siIdx (ix3 b k f) ⟨List.idxOf (0 : Fin 3) (stackDims N K M B wf).startIndexMap,
          List.idxOf_lt_length_iff.2 (List.mem_singleton.mpr rfl)⟩ = ix2 b 0 := by
        funext q
        refine Fin.ext ?_
        match q with
        | ⟨0, _⟩ => rfl
        | ⟨1, _⟩ => rfl
      rw [hsi]
      rfl
    exact (congrArg₂ (· + ·) hs ho).trans he.symm
  | ⟨1, _⟩ =>
    have hs : (stackDims N K M B wf).start (ix3 b k f) idx 1 = 0 := dif_neg (by decide : (1 : Fin 3) ∉ [(0 : Fin 3)])
    exact (congrArg₂ (· + ·) hs (rfl : (stackDims N K M B wf).offCoord (ix3 b k f) 1 = k.val)).trans (Nat.zero_add _)
  | ⟨2, _⟩ =>
    have hs : (stackDims N K M B wf).start (ix3 b k f) idx 2 = 0 := dif_neg (by decide : (2 : Fin 3) ∉ [(0 : Fin 3)])
    exact (congrArg₂ (· + ·) hs (rfl : (stackDims N K M B wf).offCoord (ix3 b k f) 2 = f.val)).trans (Nat.zero_add _)

end stack

/-! ## The rows -/

variable (x0 : Vec Ideal S36864x1024 .bf16) (x1 : Vec Ideal S72 .i32) (x2 : Vec Ideal S1 .i32) (x3 : Vec Ideal S8x1024x7168 .f32)
  (x4 : Vec Ideal S8x3584x1024 .f32)

/-- Every block names one of the eight experts. -/
abbrev Named : Prop := ∀ b : Fin 72, BitVec.toNat (x1 (ix1 b)) < 8

/-- The expert of block `b`. -/
abbrev expert (hN : Named x1) (b : Fin 72) : Fin 8 := ⟨BitVec.toNat (x1 (ix1 b)), hN b⟩

/-- A row through expert `e`. -/
abbrev expertRow (e : Fin 8) (h : Fin 1024 → EReal) : Fin 1024 → EReal :=
  swiglu h (fun k (f : Fin 3584) => x3 (ix3 e k ⟨f, by omega⟩)) (fun k (f : Fin 3584) => x3 (ix3 e k ⟨3584 + f, by omega⟩))
    (fun (f : Fin 3584) d => x4 (ix3 e f d))

/-- A word below eight is not negative, and keeps its value inside the stack. -/
theorem word_small (v : BitVec 32) (h : v.toNat < 8) :
    Scalar.select (IntOp.cmpi .slt v 0#32) (IntOp.addi v 8#32) v = v ∧ v.toNat = min v.toInt.toNat (8 - 1) := by
  have hi : v.toInt = v.toNat := BitVec.toInt_eq_toNat_of_lt (by omega)
  have hc : IntOp.cmpi .slt v 0#32 = 0#1 := by
    show BitVec.ofBool (BitVec.slt v 0#32) = 0#1
    have : BitVec.slt v 0#32 = false := by
      rw [BitVec.slt, hi]
      exact decide_eq_false (by simp)
    rw [this]; rfl
  refine ⟨by rw [hc]; rfl, by rw [hi]; omega⟩

theorem picked_at (b : Fin 72) : val_main_v7 (F := Ideal) x1 (ix2 b 0)
    = Scalar.select (IntOp.cmpi .slt (x1 (ix1 b)) 0#32) (IntOp.addi (x1 (ix1 b)) 8#32) (x1 (ix1 b)) := by
  rw [val_main_v7_apply, val_main_v6_apply, val_main_v3_apply, val_main_v5_apply, val_main_v2_apply, val_main_v4_apply,
    val_main_c_apply, val_main_c_0_apply]
  have e : idx_main_v7 (ix2 b (0 : Fin 1)) = ix1 b := by
    funext a; match a with | ⟨0, _⟩ => rfl
  rw [e]

theorem picked2_at (b : Fin 72) : val_main_v19 (F := Ideal) x1 (ix2 b 0) = val_main_v7 (F := Ideal) x1 (ix2 b 0) := rfl

variable (hN : Named x1)
include hN

theorem in_at (b : Fin 72) (k : Fin 1024) (f : Fin 7168) :
    val_main_v8 (F := Ideal) x1 x3 (ix3 b k f) = x3 (ix3 (expert x1 hN b) k f) := by
  refine stack_at _ x3 (val_main_v7 (F := Ideal) x1) b k f (expert x1 hN b) ?_
  rw [picked_at, (word_small _ (hN b)).1]
  exact (word_small _ (hN b)).2

theorem outw_at (b : Fin 72) (f : Fin 3584) (d : Fin 1024) :
    val_main_v20 (F := Ideal) x1 x4 (ix3 b f d) = x4 (ix3 (expert x1 hN b) f d) := by
  refine stack_at _ x4 (val_main_v19 (F := Ideal) x1) b f d (expert x1 hN b) ?_
  rw [picked2_at, picked_at, (word_small _ (hN b)).1]
  exact (word_small _ (hN b)).2

/-- Row `s` of block `b`, as a row of the flat array. -/
abbrev slotRow (b : Fin 72) (s : Fin 512) : Fin 1024 → EReal := fun k => x0 (ix2 (⟨b * 512 + s, by omega⟩ : Fin 36864) k)

theorem act_at (b : Fin 72) (s : Fin 512) (f : Fin 3584) :
    val_main_v13 (F := Ideal) x0 x1 x3 (ix3 b s f)
      = act (slotRow x0 b s) (fun k (f : Fin 3584) => x3 (ix3 (expert x1 hN b) k ⟨f, by omega⟩))
          (fun k (f : Fin 3584) => x3 (ix3 (expert x1 hN b) k ⟨3584 + f, by omega⟩)) f := by
  have e := in_at x1 x3 hN b
  pointwise [val_main_v13, val_main_v12, val_main_v11, val_main_v10, val_main_v9, val_main_v1, val_main_v0,
    val_main_call0_v0, val_main_call0_v1, val_main_call0_cst, val_main_call0_v2, val_main_call0_v3, val_main_call0_cst_0,
    val_main_call0_v4, val_main_call0_v5]
  simp only [e]
  rw [silu_logistic]
  rfl

theorem block_at (b : Fin 72) (s : Fin 512) (d : Fin 1024) :
    val_main_v21 (F := Ideal) x0 x1 x3 x4 (ix3 b s d) = expertRow x3 x4 (expert x1 hN b) (slotRow x0 b s) d := by
  have e := outw_at x1 x4 hN b
  have a := act_at x0 x1 x3 hN b s
  pointwise [val_main_v21]
  simp only [e, a]
  rfl

omit hN in
/-- The mask of block `b`. -/
theorem mask_at (b : Fin 72) (s : Fin 512) (d : Fin 1024) :
    val_main_call1_v1 (F := Ideal) x2 (ix3 b s d) = IntOp.cmpi .slt (BitVec.ofNat 32 b.val) (x2 (ix1 0)) := by
  rw [val_main_call1_v1_apply, val_main_v26_apply, val_main_v25_apply, val_main_v22_apply, val_main_v24_apply]
  have e : val_main_v23 (F := Ideal) x2 (idx_main_v24 (idx_main_v26 (idx_main_call1_v1 (ix3 b s d)))) = x2 (ix1 0) := by
    unfold val_main_v23
    refine shapeCast_apply x2 shapeCasts_S1_S_ _ (ix1 0) ?_
    rfl
  rw [e]
  rfl

theorem result_at (b : Fin 72) (s : Fin 512) (d : Fin 1024) :
    val_main_v28 (F := Ideal) x0 x1 x2 x3 x4 (ix2 ⟨b * 512 + s, by omega⟩ d)
      = Scalar.select (IntOp.cmpi .slt (BitVec.ofNat 32 b.val) (x2 (ix1 0)))
          (expertRow x3 x4 (expert x1 hN b) (slotRow x0 b s) d) 0 := by
  have e : idx_main_v28 (ix2 (⟨b * 512 + s, by omega⟩ : Fin 36864) d) = ix3 b s d := by
    funext a
    refine Fin.ext ?_
    match a with
    | ⟨0, _⟩ => show ((b.val * 512 + s.val) * 1024 + d.val) / 524288 = b.val; omega
    | ⟨1, _⟩ => show ((b.val * 512 + s.val) * 1024 + d.val) / 1024 % 512 = s.val; omega
    | ⟨2, _⟩ => show ((b.val * 512 + s.val) * 1024 + d.val) % 1024 = d.val; omega
  rw [val_main_v28_apply, e, val_main_v27_apply, mask_at, block_at x0 x1 x3 x4 hN]
  congr 1
  rw [val_main_call1_v2_apply, val_main_call1_v0_apply, val_main_cst_apply]
  exact Ideal.ofBits_zero_f32

end Cert.Reference3Ideal.Experts
end
-- ==== Proof.ExpertsKernel.lean ====
module

public import proofs.«01_k».proof.Proof.ExpertsIdeal.Words
public import proofs.«01_k».proof.Proof.ExpertsReference

/-! # The routed-experts kernel writes the reference's result -/

@[expose] public section

set_option maxRecDepth 16384

noncomputable section

open Idealize.ShloMosaic Idealize.ShloMosaic.TcCoe Idealize.SL.Sem
open Idealize.ShloMosaic.Pipeline (Dat)

namespace Cert.Kernel3Ideal.Experts

open Cert.Kernel3Ideal Cert.Kernel3Ideal.Gen Cert.RowMath Cert.SwigluSpec

section payloads

variable (h : Vec Ideal S512x1024 .bf16) (wG wV : Vec Ideal S1x1024x512 .bf16) (wO : Vec Ideal S1x512x1024 .bf16)

theorem part_pay (r : Fin 512) (d : Fin 1024) :
    k0_pay1 h wG wV wO (ix2 r d)
      = swiglu (fun k => h (ix2 r k)) (fun k f => wG (ix3 0 k f)) (fun k f => wV (ix3 0 k f)) (fun f d => wO (ix3 0 f d)) d := by
  pointwise [k0_pay1]
  simp only [zero_sub]
  rfl

theorem first_pay (i : S512x1024.Idx) : k0_pay2 h wG wV wO i = k0_pay1 h wG wV wO i := by
  idx_vars i
  pointwise [k0_pay2]

theorem next_pay (acc : Vec Ideal S512x1024 .f32) (i : S512x1024.Idx) : k0_pay3 h wG wV wO acc i = acc i + k0_pay1 h wG wV wO i := by
  idx_vars i
  pointwise [k0_pay3]

theorem zero_pay (i : S512x1024.Idx) : k0_pay4 (F := Ideal) i = 0 := by
  idx_vars i
  pointwise [k0_pay4]

end payloads

variable (m : (ℓ : Loc nD τ sig) → Buf (Elt Ideal) ℓ) (hN : Named m)

theorem lt_points (t : Fin (cfgM m (ok_of_named m hN)).N) : t.val < 504 := Nat.lt_of_lt_of_eq t.isLt N_0

/-- The block of rows of point `t`. -/
abbrev blockOf (t : Fin (cfgM m (ok_of_named m hN)).N) : Fin 72 := ⟨t.val / 7, by have := lt_points m hN t; omega⟩

/-- The expert of block `b`. -/
abbrev expertOf (b : Fin 72) : Fin 8 := ⟨(expertWord m 0 b).toNat, hN b⟩

/-- Point `t` is of a block in use. -/
abbrev InUse (t : Fin (cfgM m (ok_of_named m hN)).N) : Prop := ((t.val / 7 : ℕ) : ℤ) < (countWord m 0).toInt

theorem coord_slice (t : Fin grid0.N) : (grid0.coords t 1).val = t.val % 7 := by
  have e1 : (grid0.coords t 1).val = t.val / 1 % 7 := Pipeline.Grid.coords_val t 1 (by decide) rfl
  rw [e1, Nat.div_one]

theorem coord_eq (t : Fin (cfgM m (ok_of_named m hN)).N) : (grid0.coords t 0 : Fin 72) = blockOf m hN t := Fin.ext (coord_block t)

theorem at_0 (t : Fin (cfgM m (ok_of_named m hN)).N) : ((cfgM m (ok_of_named m hN)).win 0).index t = ![t.val / 7, 0] := by
  have e := (first_coord (grid0.coords t)).trans (coord_block t)
  exact congrArg (fun n => (![n, 0] : Fin 2 → ℕ)) e

theorem at_4 (t : Fin (cfgM m (ok_of_named m hN)).N) : ((cfgM m (ok_of_named m hN)).win 4).index t = ![t.val / 7, 0] := by
  have e := (first_coord (grid0.coords t)).trans (coord_block t)
  exact congrArg (fun n => (![n, 0] : Fin 2 → ℕ)) e

theorem slice_at (t : Fin (cfgM m (ok_of_named m hN)).N) (hu : InUse m hN t) : (sliceWord m (grid0.coords t)).toNat = t.val % 7 := by
  rw [slice_used m (grid0.coords t) (by rw [coord_block t]; exact hu)]
  exact coord_slice t

theorem at_1 (t : Fin (cfgM m (ok_of_named m hN)).N) (hu : InUse m hN t) :
    ((cfgM m (ok_of_named m hN)).win 1).index t = ![(expertOf m hN (blockOf m hN t)).val, 0, t.val % 7] := by
  refine (index_1 m (grid0.coords t)).trans ?_
  rw [slice_at m hN t hu]
  exact congrArg (fun b : Fin 72 => (![(expertWord m 0 b).toNat, 0, t.val % 7] : Fin 3 → ℕ)) (coord_eq m hN t)

theorem at_2 (t : Fin (cfgM m (ok_of_named m hN)).N) (hu : InUse m hN t) :
    ((cfgM m (ok_of_named m hN)).win 2).index t = ![(expertOf m hN (blockOf m hN t)).val, 0, 7 + t.val % 7] := by
  refine (index_2 m (grid0.coords t)).trans ?_
  rw [slice_at m hN t hu]
  exact congrArg (fun b : Fin 72 => (![(expertWord m 0 b).toNat, 0, 7 + t.val % 7] : Fin 3 → ℕ)) (coord_eq m hN t)

theorem at_3 (t : Fin (cfgM m (ok_of_named m hN)).N) (hu : InUse m hN t) :
    ((cfgM m (ok_of_named m hN)).win 3).index t = ![(expertOf m hN (blockOf m hN t)).val, t.val % 7, 0] := by
  refine (index_3 m (grid0.coords t)).trans ?_
  rw [slice_at m hN t hu]
  exact congrArg (fun b : Fin 72 => (![(expertWord m 0 b).toNat, t.val % 7, 0] : Fin 3 → ℕ)) (coord_eq m hN t)

theorem iblk0_at (c : Dev nD) (t : Fin (cfgM m (ok_of_named m hN)).N) (r : Fin 512) (k : Fin 1024) :
    iblk m (ok_of_named m hN) c 0 t (ix2 r k)
      = m ((c.tc : Thread nD τ).loc main_arg0) (ix2 ⟨t.val / 7 * 512 + r.val, by have := lt_points m hN t; omega⟩ k) := by
  blk_point [iblk, V, at_0 m hN t]

theorem iblk1_at (c : Dev nD) (t : Fin (cfgM m (ok_of_named m hN)).N) (hu : InUse m hN t) (k : Fin 1024) (f : Fin 512) :
    iblk m (ok_of_named m hN) c 1 t (ix3 0 k f)
      = m ((c.tc : Thread nD τ).loc main_arg3) (ix3 (expertOf m hN (blockOf m hN t)) k ⟨t.val % 7 * 512 + f.val, by omega⟩) := by
  blk_point [iblk, at_1 m hN t hu]

theorem iblk2_at (c : Dev nD) (t : Fin (cfgM m (ok_of_named m hN)).N) (hu : InUse m hN t) (k : Fin 1024) (f : Fin 512) :
    iblk m (ok_of_named m hN) c 2 t (ix3 0 k f)
      = m ((c.tc : Thread nD τ).loc main_arg3) (ix3 (expertOf m hN (blockOf m hN t)) k ⟨3584 + (t.val % 7 * 512 + f.val), by omega⟩) := by
  blk_point [iblk, at_2 m hN t hu]

theorem iblk3_at (c : Dev nD) (t : Fin (cfgM m (ok_of_named m hN)).N) (hu : InUse m hN t) (f : Fin 512) (d : Fin 1024) :
    iblk m (ok_of_named m hN) c 3 t (ix3 0 f d)
      = m ((c.tc : Thread nD τ).loc main_arg4) (ix3 (expertOf m hN (blockOf m hN t)) ⟨t.val % 7 * 512 + f.val, by omega⟩ d) := by
  blk_point [iblk, at_3 m hN t hu]

/-! ## The accumulated block -/

/-- What point `t` adds to row `r` of its block: the expert's output over the point's 512 features. -/
def part (c : Dev nD) (t : Fin (cfgM m (ok_of_named m hN)).N) (r : Fin 512) : Fin 1024 → EReal :=
  swiglu (fun k => (m ((c.tc : Thread nD τ).loc main_arg0) : Vec Ideal S36864x1024 .bf16)
      (ix2 ⟨t.val / 7 * 512 + r.val, by have := lt_points m hN t; omega⟩ k))
    (fun k (f : Fin 512) => (m ((c.tc : Thread nD τ).loc main_arg3) : Vec Ideal S8x1024x7168 .f32)
      (ix3 (expertOf m hN (blockOf m hN t)) k ⟨t.val % 7 * 512 + f.val, by omega⟩))
    (fun k (f : Fin 512) => (m ((c.tc : Thread nD τ).loc main_arg3) : Vec Ideal S8x1024x7168 .f32)
      (ix3 (expertOf m hN (blockOf m hN t)) k ⟨3584 + (t.val % 7 * 512 + f.val), by omega⟩))
    (fun (f : Fin 512) d => (m ((c.tc : Thread nD τ).loc main_arg4) : Vec Ideal S8x3584x1024 .f32)
      (ix3 (expertOf m hN (blockOf m hN t)) ⟨t.val % 7 * 512 + f.val, by omega⟩ d))

theorem part_point (c : Dev nD) (t : Fin (cfgM m (ok_of_named m hN)).N) (hu : InUse m hN t) (x0 : Vec Ideal S512x1024 .bf16)
    (x1 x2 : Vec Ideal S1x1024x512 .bf16) (x3 : Vec Ideal S1x512x1024 .bf16)
    (e0 : x0 = iblk m (ok_of_named m hN) c 0 t) (e1 : x1 = iblk m (ok_of_named m hN) c 1 t)
    (e2 : x2 = iblk m (ok_of_named m hN) c 2 t) (e3 : x3 = iblk m (ok_of_named m hN) c 3 t) (r : Fin 512) (d : Fin 1024) :
    k0_pay1 x0 x1 x2 x3 (ix2 r d) = part m hN c t r d := by
  have f0 : (fun k => x0 (ix2 r k)) = _ := funext fun k => (congrFun e0 (ix2 r k)).trans (iblk0_at m hN c t r k)
  have f1 : (fun k (f : Fin 512) => x1 (ix3 0 k f)) = _ :=
    funext fun k => funext fun f => (congrFun e1 (ix3 0 k f)).trans (iblk1_at m hN c t hu k f)
  have f2 : (fun k (f : Fin 512) => x2 (ix3 0 k f)) = _ :=
    funext fun k => funext fun f => (congrFun e2 (ix3 0 k f)).trans (iblk2_at m hN c t hu k f)
  have f3 : (fun (f : Fin 512) d => x3 (ix3 0 f d)) = _ :=
    funext fun f => funext fun d => (congrFun e3 (ix3 0 f d)).trans (iblk3_at m hN c t hu f d)
  rw [part_pay, f0, f1, f2, f3]
  rfl

/-- The condition that the body computes at a point of a block in use. -/
theorem cond_used (t : Fin (cfgM m (ok_of_named m hN)).N) :
    cond0_0 (grid0.coords t) (tbM0_1.view.readAt (Elt Ideal) (Rect.unit (s := S1) ![0] S1.size inb_S1_S1_0).toLoadRect (tbl m 1)
      (Shape.Idx.first (numel1_S1.symm ▸ Nat.one_pos))) ↔ InUse m hN t := by
  rw [count_read, cond0_0_iff, coord_block t]

/-- A whole buffer holding `X` reads `X`. -/
theorem read_held {κ : Kind} {Val : EltTy → Type} (b : Ref sig κ) (h : (Memref.whole b).IsWhole)
    (X : b.ty.shape.Idx → Val b.ty.elt) : View.read Val (View.whole b) (h.unread X) = X := h.read_unread X

theorem acc_first_used (c : Dev nD) (t : Fin (cfgM m (ok_of_named m hN)).N) (hu : InUse m hN t) (h0 : t.val % 7 = 0) (i : S512x1024.Idx) :
    (outsAt0 m (ok_of_named m hN) c t.val t.isLt).2 i = part m hN c t (i 0) (i 1) := by
  idx_vars i
  rw [outsAt0_A m (ok_of_named m hN) c t ((cond_used m hN t).mpr hu) h0 (by omega) (by omega)]
  frame_out
  refine (first_pay _ _ _ _ _).trans (part_point m hN c t hu _ _ _ _ ?_ ?_ ?_ ?_ _ _)
  · exact (hs0_0 m (ok_of_named m hN) t).read_unread _
  · exact (hs0_1 m (ok_of_named m hN) t).read_unread _
  · exact (hs0_2 m (ok_of_named m hN) t).read_unread _
  · exact (hs0_3 m (ok_of_named m hN) t).read_unread _

theorem acc_next_used (c : Dev nD) (t : Fin (cfgM m (ok_of_named m hN)).N) (hu : InUse m hN t) (h0 : ¬t.val % 7 = 0) (i : S512x1024.Idx) :
    (outsAt0 m (ok_of_named m hN) c t.val t.isLt).2 i
      = (outsAt0 m (ok_of_named m hN) c (t.val - 1) (Nat.lt_of_le_of_lt (Nat.sub_le _ _) t.isLt)).2 i + part m hN c t (i 0) (i 1) := by
  idx_vars i
  by_cases h3 : t.val % 7 = 6
  · rw [outsAt0_D m (ok_of_named m hN) c t ((cond_used m hN t).mpr hu) h0 (by omega) h3]
    frame_out
    rw [next_pay, read_held]
    refine congrArg (_ + ·) (part_point m hN c t hu _ _ _ _ ?_ ?_ ?_ ?_ _ _)
    · exact (hs0_0 m (ok_of_named m hN) t).read_unread _
    · exact (hs0_1 m (ok_of_named m hN) t).read_unread _
    · exact (hs0_2 m (ok_of_named m hN) t).read_unread _
    · exact (hs0_3 m (ok_of_named m hN) t).read_unread _
  · rw [outsAt0_C m (ok_of_named m hN) c t ((cond_used m hN t).mpr hu) h0 (by omega) h3]
    frame_out
    rw [next_pay, read_held]
    refine congrArg (_ + ·) (part_point m hN c t hu _ _ _ _ ?_ ?_ ?_ ?_ _ _)
    · exact (hs0_0 m (ok_of_named m hN) t).read_unread _
    · exact (hs0_1 m (ok_of_named m hN) t).read_unread _
    · exact (hs0_2 m (ok_of_named m hN) t).read_unread _
    · exact (hs0_3 m (ok_of_named m hN) t).read_unread _

/-- The scratch at the points of the blocks in use, and zeros elsewhere. -/
def accOf (c : Dev nD) (n : ℕ) (h : n < (cfgM m (ok_of_named m hN)).N) : S512x1024.Idx → EReal :=
  if ((n / 7 : ℕ) : ℤ) < (countWord m 0).toInt then (outsAt0 m (ok_of_named m hN) c n h).2 else fun _ => 0

/-- What point `t` adds, and zeros for a block not in use. -/
def termOf (c : Dev nD) (t : Fin (cfgM m (ok_of_named m hN)).N) (i : S512x1024.Idx) : EReal :=
  if ((t.val / 7 : ℕ) : ℤ) < (countWord m 0).toInt then part m hN c t (i 0) (i 1) else 0

theorem accOf_first (c : Dev nD) (t : Fin (cfgM m (ok_of_named m hN)).N) (h0 : t.val % 7 = 0) (i : S512x1024.Idx) :
    accOf m hN c t.val t.isLt i = 0 + termOf m hN c t i := by
  unfold accOf termOf
  by_cases hu : ((t.val / 7 : ℕ) : ℤ) < (countWord m 0).toInt
  · rw [if_pos hu, if_pos hu, zero_add]
    exact acc_first_used m hN c t hu h0 i
  · rw [if_neg hu, if_neg hu, add_zero]

theorem accOf_next (c : Dev nD) (t : Fin (cfgM m (ok_of_named m hN)).N) (h0 : ¬t.val % 7 = 0) (i : S512x1024.Idx) :
    accOf m hN c t.val t.isLt i
      = accOf m hN c (t.val - 1) (Nat.lt_of_le_of_lt (Nat.sub_le _ _) t.isLt) i + termOf m hN c t i := by
  unfold accOf termOf
  have q : (t.val - 1) / 7 = t.val / 7 := by omega
  rw [q]
  by_cases hu : ((t.val / 7 : ℕ) : ℤ) < (countWord m 0).toInt
  · rw [if_pos hu, if_pos hu, if_pos hu]
    exact acc_next_used m hN c t hu h0 i
  · rw [if_neg hu, if_neg hu, if_neg hu, add_zero]

/-- The scratch at the last point of a block in use: the rows through the block's expert. -/
theorem acc_last (c : Dev nD) (t : Fin (cfgM m (ok_of_named m hN)).N) (hu : InUse m hN t) (h : t.val % 7 = 6) (r : Fin 512) (d : Fin 1024) :
    (outsAt0 m (ok_of_named m hN) c t.val t.isLt).2 (ix2 r d)
      = Cert.Reference3Ideal.Experts.expertRow (m ((c.tc : Thread nD τ).loc main_arg3)) (m ((c.tc : Thread nD τ).loc main_arg4))
          (expertOf m hN (blockOf m hN t))
          (Cert.Reference3Ideal.Experts.slotRow (m ((c.tc : Thread nD τ).loc main_arg0)) (blockOf m hN t) r) d := by
  have e : accOf m hN c t.val t.isLt (ix2 r d) = (outsAt0 m (ok_of_named m hN) c t.val t.isLt).2 (ix2 r d) := by
    unfold accOf
    rw [if_pos hu]
  rw [← e, Pipeline.eq_sum_fin_of_reset_step_apply_of_flush (accOf m hN c) 7 (fun _ => 0)
    (termOf m hN c) (accOf_first m hN c) (accOf_next m hN c) t h (ix2 r d), zero_add]
  refine (Finset.sum_congr rfl fun s _ => if_pos (?_ : ((((7 * (t.val / 7) + s.val) / 7 : ℕ) : ℤ)) < (countWord m 0).toInt)).trans ?_
  · rw [show (7 * (t.val / 7) + s.val) / 7 = t.val / 7 by omega]
    exact hu
  refine Fin.sum_mul_add_congr fun s k hl => ?_
  have q1 : (7 * (t.val / 7) + s.val) / 7 = t.val / 7 := by omega
  have q2 : (7 * (t.val / 7) + s.val) % 7 = s.val := by omega
  have q3 : ∀ hl : 7 * (t.val / 7) + s.val < (cfgM m (ok_of_named m hN)).N, blockOf m hN ⟨7 * (t.val / 7) + s.val, hl⟩ = blockOf m hN t :=
    fun _ => Fin.ext q1
  simp only [q1, q2, q3]
  rfl

/-! ## The result -/

/-- The reference's result from the kernel's arguments. -/
abbrev want (c : Dev nD) : Vec Ideal S36864x1024 .f32 :=
  Cert.Reference3Ideal.Read.val_main_v28 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The reference's mask of block `b`, as a comparison of integers. -/
theorem mask_iff (b : Fin 72) : IntOp.cmpi .slt (BitVec.ofNat 32 b.val) (countWord m 0) = 1#1 ↔ ((b.val : ℕ) : ℤ) < (countWord m 0).toInt := by
  have bits : ∀ v : BitVec 1, (Scalar.cmpi .ne (Scalar.extui v : BitVec 32) 0#32 = 1#1) ↔ v = 1#1 := by decide
  exact (bits _).symm.trans (below_iff b.val b.isLt _)

theorem want_used (c : Dev nD) (b : Fin 72) (hu : ((b.val : ℕ) : ℤ) < (countWord m 0).toInt) (r : Fin 512) (d : Fin 1024) :
    want m c (ix2 ⟨b.val * 512 + r.val, by omega⟩ d)
      = Cert.Reference3Ideal.Experts.expertRow (m ((c.tc : Thread nD τ).loc main_arg3)) (m ((c.tc : Thread nD τ).loc main_arg4))
          (expertOf m hN b) (Cert.Reference3Ideal.Experts.slotRow (m ((c.tc : Thread nD τ).loc main_arg0)) b r) d := by
  obtain rfl : c = 0 := Subsingleton.elim _ _
  refine (Cert.Reference3Ideal.Experts.result_at _ _ _ _ _ hN b r d).trans ?_
  exact (congrArg (fun v => Scalar.select v _ _) ((mask_iff m b).mpr hu)).trans rfl

include hN in
theorem want_unused (c : Dev nD) (b : Fin 72) (hu : ¬((b.val : ℕ) : ℤ) < (countWord m 0).toInt) (r : Fin 512) (d : Fin 1024) :
    want m c (ix2 ⟨b.val * 512 + r.val, by omega⟩ d) = 0 := by
  obtain rfl : c = 0 := Subsingleton.elim _ _
  have zero : ∀ v : BitVec 1, ¬v = 1#1 → v = 0#1 := by decide
  refine (Cert.Reference3Ideal.Experts.result_at _ _ _ _ _ hN b r d).trans ?_
  exact (congrArg (fun v => Scalar.select v _ _) (zero _ fun e => hu ((mask_iff m b).mp e))).trans rfl

/-- What the last point of a block stores is the reference's rows at their place. -/
theorem out_point (c : Dev nD) (t : Fin (cfgM m (ok_of_named m hN)).N) (h : t.val % 7 = 6) (r : Fin 512) (d : Fin 1024) :
    (outsAt0 m (ok_of_named m hN) c t.val t.isLt).1 (ix2 r d)
      = want m c (ix2 ⟨t.val / 7 * 512 + r.val, by have := lt_points m hN t; omega⟩ d) := by
  by_cases hu : InUse m hN t
  · have ha := acc_last m hN c t hu h r d
    rw [outsAt0_D m (ok_of_named m hN) c t ((cond_used m hN t).mpr hu) (by omega) (by omega) h] at ha ⊢
    frame_out at ha
    frame_out
    exact ha.trans (want_used m hN c (blockOf m hN t) hu r d).symm
  · rw [outsAt0_E m (ok_of_named m hN) c t (fun e => hu ((cond_used m hN t).mp e)) h]
    frame_out
    exact (zero_pay _).trans (want_unused m hN c (blockOf m hN t) hu r d).symm

/-- The last points of the blocks write every row of the result. -/
theorem covers : ((cfgM m (ok_of_named m hN)).win 4).Covers := by
  refine ⟨(by decide : ∀ a : Fin 2, 0 < (![512, 1024] : Fin 2 → ℕ) a), fun β => ?_⟩
  have l0 : (β (0 : Fin 2)).val < (36864 + 512 - 1) / 512 := (β (0 : Fin 2)).isLt
  have l1 : (β (1 : Fin 2)).val < (1024 + 1024 - 1) / 1024 := (β (1 : Fin 2)).isLt
  have hl : 7 * (β (0 : Fin 2)).val + 6 < (cfgM m (ok_of_named m hN)).N := by
    have e : (cfgM m (ok_of_named m hN)).N = 504 := rfl
    omega
  refine ⟨⟨7 * (β (0 : Fin 2)).val + 6, hl⟩, (flush0_4 _ ⟨_, hl⟩).mpr (by show (7 * (β (0 : Fin 2)).val + 6) % 7 = 6; omega), ?_⟩
  have ha := at_4 m hN ⟨7 * (β (0 : Fin 2)).val + 6, hl⟩
  have hd : (7 * (β (0 : Fin 2)).val + 6) / 7 = (β (0 : Fin 2)).val := by omega
  intro a
  refine ⟨(congrFun ha a).trans ?_, Or.inl rfl⟩
  match a with
  | ⟨0, _⟩ => exact hd
  | ⟨1, _⟩ => exact (show 0 = (β (1 : Fin 2)).val by omega)

/-- The array the kernel leaves is the reference's result. -/
theorem final (c : Dev nD) : (dats m (ok_of_named m hN) 0 c).arrAt 4 (cfgM m (ok_of_named m hN)).N = want m c := by
  refine (dats m (ok_of_named m hN) 0 c).arrAt_eq_of_covers 4 _ (covers m hN) fun t hf (y : S512x1024.Idx) => ?_
  blk_simp
  rw [after0_4]
  idx_vars y
  refine (out_point m hN c t ((flush0_4 _ t).mp hf) y0 y1).trans (congrArg (want m c) ?_)
  blk_ext [at_4 m hN t]

include hN in
/-- The kernel's run: the result is the reference's, and the arguments are kept. -/
theorem run (ρ : Dev nD → PrngReg) : θ_run defs (onTc (τ := τ) (main (F := Ideal))) ⟨m, fun _ => 0, ρ⟩ (fun r => ∀ c : Dev nD,
      r.2.mem ((c.tc : Thread nD τ).loc main_v2) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final m hN c),
      ((h c).1 0).trans (((dats m (ok_of_named m hN) 0 c).arrAt_in 0 rfl _).trans ((A_eq m (ok_of_named m hN) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok_of_named m hN))

end Cert.Kernel3Ideal.Experts
end
-- ==== Proof.ProjectionReference.lean ====
module

public import proofs.«01_k».proof.Proof.Gen.Reference4Ideal.Read
public import proofs.«01_k».proof.Proof.RowMath

/-! # The reference of the attention's output projection, row by row -/

@[expose] public section

set_option maxRecDepth 16384

noncomputable section

open Idealize.ShloMosaic Idealize.ShloMosaic.TcCoe Idealize.SL.Sem

namespace Cert.Reference4Ideal.Projection

open Cert.Reference4Ideal Cert.Reference4Ideal.Gen Cert.Reference4Ideal.Read Cert.RowMath

variable (x0 : Vec Ideal S16384x1024 .bf16) (x1 : Vec Ideal S16384x1024 .f32) (x2 : Vec Ideal S2x6x1024 .f32)
  (x3 : Vec Ideal S1024x1024 .f32) (x4 x5 : Vec Ideal S1024 .f32)

theorem residual_at (b : Fin 2) (s : Fin 8192) (d : Fin 1024) :
    val_main_v11 (F := Ideal) x0 x1 x2 x3 (ix3 b s d)
      = residual (fun k => x1 (ix2 (⟨b * 8192 + s, by omega⟩ : Fin 16384) k)) (fun k => x2 (ix3 b 2 k))
          (mulRow (fun k => x0 (ix2 (⟨b * 8192 + s, by omega⟩ : Fin 16384) k)) fun k d => x3 (ix2 k d)) d := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem norm_at (b : Fin 2) (s : Fin 8192) (d : Fin 1024) :
    val_main_v35 (F := Ideal) x0 x1 x2 x3 x4 x5 (ix3 b s d)
      = norm width1024 (fun d => val_main_v11 (F := Ideal) x0 x1 x2 x3 (ix3 b s d)) (fun d => x4 (ix1 d)) (fun d => x5 (ix1 d)) d := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1, val_main_cst_2, val_main_cst_3, val_main_cst_4, val_main_cst_5]
  rfl

/-- Row `i` of the result. -/
theorem result_at (i : Fin 16384) (d : Fin 1024) :
    val_main_v36 (F := Ideal) x0 x1 x2 x3 x4 x5 (ix2 i d)
      = norm width1024 (residual (fun k => x1 (ix2 i k)) (fun k => x2 (ix3 ⟨i / 8192, by omega⟩ 2 k))
          (mulRow (fun k => x0 (ix2 (i : Fin 16384) k)) fun k d => x3 (ix2 k d))) (fun d => x4 (ix1 d)) (fun d => x5 (ix1 d)) d := by
  have e1 : ∀ h : i.val / 8192 * 8192 + i.val % 8192 < 16384, (⟨i.val / 8192 * 8192 + i.val % 8192, h⟩ : Fin 16384) = i :=
    fun _ => Fin.ext (by show i.val / 8192 * 8192 + i.val % 8192 = i.val; omega)
  have e2 : val_main_v36 (F := Ideal) x0 x1 x2 x3 x4 x5 (ix2 i d)
      = val_main_v35 (F := Ideal) x0 x1 x2 x3 x4 x5 (ix3 ⟨i / 8192, by omega⟩ ⟨i % 8192, by omega⟩ d) := by
    pointwise [val_main_v36]
  rw [e2]
  simp only [norm_at, residual_at, e1]

end Cert.Reference4Ideal.Projection
end
-- ==== Proof.ProjectionKernel.lean ====
module

public import proofs.«01_k».proof.Proof.Gen.Kernel4Ideal.Value
public import Idealize.ShloMosaic.Lib.Claim
public import proofs.«01_k».proof.Proof.ProjectionReference

/-! # The projection kernel writes the reference's result -/

@[expose] public section

set_option maxRecDepth 16384

noncomputable section

open Idealize.ShloMosaic Idealize.ShloMosaic.TcCoe Idealize.SL.Sem
open Idealize.ShloMosaic.Pipeline (Dat)

namespace Cert.Kernel4Ideal.Projection

open Cert.Kernel4Ideal Cert.Kernel4Ideal.Gen Cert.RowMath

section payloads

variable (A : Vec Ideal S512x1024 .bf16) (X : Vec Ideal S512x1024 .f32) (M : Vec Ideal S1x6x1024 .f32)
  (W : Vec Ideal S1024x1024 .bf16) (lg lb : Vec Ideal S1x1024 .f32)

/-- A row of the tile that a point stores. -/
theorem tile_pay (r : Fin 512) (d : Fin 1024) :
    out0_6 A X M W lg lb (ix2 r d)
      = norm width1024 (residual (fun k => X (ix2 r k)) (fun k => M (ix3 0 2 k))
          (mulRow (fun k => A (ix2 r k)) fun k d => W (ix2 k d))) (fun d => lg (ix2 0 d)) (fun d => lb (ix2 0 d)) d := by
  frame_out
  pointwise [k0_pay1, k0_pay2, k0_pay3]
  rfl

end payloads

variable (m : (ℓ : Loc nD τ sig) → Buf (Elt Ideal) ℓ)

theorem idx : ∀ t : Fin cfg0.N, win0_0.index t = ![t.val, 0] ∧ win0_1.index t = ![t.val, 0] ∧ win0_2.index t = ![t.val / 16, 0, 0] ∧ win0_3.index t = ![0, 0]
    ∧ win0_4.index t = ![0, 0] ∧ win0_5.index t = ![0, 0] ∧ win0_6.index t = ![t.val, 0] :=
  (by decide +kernel : ∀ t : Fin grid0.N, _)

theorem lt_points (t : Fin cfg0.N) : t.val < 32 := t.isLt

theorem iblk0_at (c : Dev nD) (t : Fin cfg0.N) (r : Fin 512) (k : Fin 1024) :
    iblk m c 0 t (ix2 r k) = m ((c.tc : Thread nD τ).loc main_arg0) (ix2 ⟨t.val * 512 + r.val, by have := lt_points t; omega⟩ k) := by
  blk_point [iblk, V, idx t]

theorem iblk1_at (c : Dev nD) (t : Fin cfg0.N) (r : Fin 512) (k : Fin 1024) :
    iblk m c 1 t (ix2 r k) = m ((c.tc : Thread nD τ).loc main_arg1) (ix2 ⟨t.val * 512 + r.val, by have := lt_points t; omega⟩ k) := by
  blk_point [iblk, V, idx t]

theorem iblk2_at (c : Dev nD) (t : Fin cfg0.N) (r : Fin 6) (k : Fin 1024) :
    iblk m c 2 t (ix3 0 r k) = m ((c.tc : Thread nD τ).loc main_arg2) (ix3 ⟨t.val / 16, by have := lt_points t; omega⟩ r k) := by
  blk_point [iblk, V, idx t]

theorem iblk3_at (c : Dev nD) (t : Fin cfg0.N) (r : Fin 1024) (k : Fin 1024) :
    iblk m c 3 t (ix2 r k) = m ((c.tc : Thread nD τ).loc main_arg3) (ix2 r k) := by
  blk_point [iblk, idx t]

theorem iblk4_at (c : Dev nD) (t : Fin cfg0.N) (k : Fin 1024) :
    iblk m c 4 t (ix2 0 k) = m ((c.tc : Thread nD τ).loc main_arg4) (ix1 k) := by
  blk_point [iblk, idx t]

theorem iblk5_at (c : Dev nD) (t : Fin cfg0.N) (k : Fin 1024) :
    iblk m c 5 t (ix2 0 k) = m ((c.tc : Thread nD τ).loc main_arg5) (ix1 k) := by
  blk_point [iblk, idx t]

/-- The reference's result from the kernel's arguments. -/
abbrev want (c : Dev nD) : Vec Ideal S16384x1024 .f32 :=
  Cert.Reference4Ideal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- What a point stores is the reference's rows at their place. -/
theorem out_point (c : Dev nD) (t : Fin cfg0.N) (r : Fin 512) (d : Fin 1024) :
    out0_6 (iblk m c 0 t) (iblk m c 1 t) (iblk m c 2 t) (iblk m c 3 t) (iblk m c 4 t) (iblk m c 5 t) (ix2 r d)
      = want m c (ix2 ⟨t.val * 512 + r.val, by have := lt_points t; omega⟩ d) := by
  have ht := lt_points t
  refine (tile_pay _ _ _ _ _ _ r d).trans ?_
  refine Eq.trans ?_ (Cert.Reference4Ideal.Projection.result_at _ _ _ _ _ _ _ _).symm
  have q : (t.val * 512 + r.val) / 8192 = t.val / 16 := by omega
  simp only [iblk0_at, iblk1_at, iblk2_at, iblk3_at, iblk4_at, iblk5_at, q]

/-- The array the kernel leaves is the reference's result. -/
theorem final (c : Dev nD) : (dats m 0 c).arrAt 6 (cfgs 0).N = want m c := by
  refine (dats m 0 c).arrAt_eq_of_covers 6 _ (by decide +kernel) fun t hf y => ?_
  blk_simp
  rw [after0_6]
  idx_vars y
  refine (out_point m c t y0 y1).trans (congrArg (want m c) ?_)
  blk_ext [idx t]

end Cert.Kernel4Ideal.Projection
end
-- ==== Proof.CombineReference.lean ====
module

public import proofs.«01_k».proof.Proof.Gen.Reference5Ideal.Read
public import proofs.«01_k».proof.Proof.RowMath

/-! # The reference of the combination of two experts' rows, row by row -/

@[expose] public section

set_option maxRecDepth 16384

noncomputable section

open Idealize.ShloMosaic Idealize.ShloMosaic.TcCoe Idealize.SL.Sem

namespace Cert.Reference5Ideal.Combine

open Cert.Reference5Ideal Cert.Reference5Ideal.Gen Cert.Reference5Ideal.Read Cert.RowMath

variable (x0 x1 x2 : Vec Ideal S16384x1024 .f32) (x3 : Vec Ideal S16384x128 .f32) (x4 : Vec Ideal S2x6x1024 .f32)
  (x5 x6 : Vec Ideal S1024 .f32)

theorem residual_at (b : Fin 2) (s : Fin 8192) (d : Fin 1024) :
    val_main_v16 (F := Ideal) x0 x1 x2 x3 x4 (ix3 b s d)
      = residual (fun k => x0 (ix2 (⟨b * 8192 + s, by omega⟩ : Fin 16384) k)) (fun k => x4 (ix3 b 5 k))
          (fun d => x1 (ix2 (⟨b * 8192 + s, by omega⟩ : Fin 16384) d) * x3 (ix2 (⟨b * 8192 + s, by omega⟩ : Fin 16384) 2) + x2 (ix2 (⟨b * 8192 + s, by omega⟩ : Fin 16384) d) * x3 (ix2 (⟨b * 8192 + s, by omega⟩ : Fin 16384) 3)) d := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem norm_at (b : Fin 2) (s : Fin 8192) (d : Fin 1024) :
    val_main_v40 (F := Ideal) x0 x1 x2 x3 x4 x5 x6 (ix3 b s d)
      = norm width1024 (fun d => val_main_v16 (F := Ideal) x0 x1 x2 x3 x4 (ix3 b s d)) (fun d => x5 (ix1 d)) (fun d => x6 (ix1 d)) d := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_1, val_main_cst_2, val_main_cst_3, val_main_cst_4, val_main_cst_5]
  rfl

/-- Row `i` of the result. -/
theorem result_at (i : Fin 16384) (d : Fin 1024) :
    val_main_v41 (F := Ideal) x0 x1 x2 x3 x4 x5 x6 (ix2 i d)
      = norm width1024 (residual (fun k => x0 (ix2 i k)) (fun k => x4 (ix3 ⟨i / 8192, by omega⟩ 5 k))
          (fun d => x1 (ix2 (i : Fin 16384) d) * x3 (ix2 (i : Fin 16384) 2) + x2 (ix2 (i : Fin 16384) d) * x3 (ix2 (i : Fin 16384) 3))) (fun d => x5 (ix1 d)) (fun d => x6 (ix1 d)) d := by
  have e1 : ∀ h : i.val / 8192 * 8192 + i.val % 8192 < 16384, (⟨i.val / 8192 * 8192 + i.val % 8192, h⟩ : Fin 16384) = i :=
    fun _ => Fin.ext (by show i.val / 8192 * 8192 + i.val % 8192 = i.val; omega)
  have e2 : val_main_v41 (F := Ideal) x0 x1 x2 x3 x4 x5 x6 (ix2 i d)
      = val_main_v40 (F := Ideal) x0 x1 x2 x3 x4 x5 x6 (ix3 ⟨i / 8192, by omega⟩ ⟨i % 8192, by omega⟩ d) := by
    pointwise [val_main_v41]
  rw [e2]
  simp only [norm_at, residual_at, e1]

end Cert.Reference5Ideal.Combine
end
-- ==== Proof.CombineKernel.lean ====
module

public import proofs.«01_k».proof.Proof.Gen.Kernel5Ideal.Value
public import Idealize.ShloMosaic.Lib.Claim
public import proofs.«01_k».proof.Proof.CombineReference

/-! # The combination kernel writes the reference's result -/

@[expose] public section

set_option maxRecDepth 16384

noncomputable section

open Idealize.ShloMosaic Idealize.ShloMosaic.TcCoe Idealize.SL.Sem
open Idealize.ShloMosaic.Pipeline (Dat)

namespace Cert.Kernel5Ideal.Combine

open Cert.Kernel5Ideal Cert.Kernel5Ideal.Gen Cert.RowMath

section payloads

variable (X YA YB : Vec Ideal S512x1024 .f32) (G : Vec Ideal S512x128 .f32) (M : Vec Ideal S1x6x1024 .f32)
  (lg lb : Vec Ideal S1x1024 .f32)

/-- A row of the tile that a point stores. -/
theorem tile_pay (r : Fin 512) (d : Fin 1024) :
    out0_7 X YA YB G M lg lb (ix2 r d)
      = norm width1024 (residual (fun k => X (ix2 r k)) (fun k => M (ix3 0 5 k))
          (fun d => YA (ix2 r d) * G (ix2 r 2) + YB (ix2 r d) * G (ix2 r 3))) (fun d => lg (ix2 0 d)) (fun d => lb (ix2 0 d)) d := by
  have e : (fun d => YA (ix2 r d) * G (ix2 r 2) + YB (ix2 r d) * G (ix2 r 3) : Fin 1024 → EReal)
      = fun d => G (ix2 r 2) * YA (ix2 r d) + G (ix2 r 3) * YB (ix2 r d) :=
    funext fun d => congrArg₂ (fun a b : EReal => a + b) (EReal.mul_comm _ _) (EReal.mul_comm _ _)
  rw [e]
  frame_out
  pointwise [k0_pay1, k0_pay2, k0_pay3, k0_pay4, k0_pay5, k0_pay6]
  rfl

end payloads

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val / 16, 0, 0] ∧ win0_5.index t = ![0, 0] ∧ win0_6.index t = ![0, 0] ∧ win0_7.index t = ![t.val, 0] :=
  (by decide +kernel : ∀ t : Fin grid0.N, _)

theorem lt_points (t : Fin cfg0.N) : t.val < 32 := t.isLt

theorem iblk0_at (c : Dev nD) (t : Fin cfg0.N) (r : Fin 512) (k : Fin 1024) :
    iblk m c 0 t (ix2 r k) = m ((c.tc : Thread nD τ).loc main_arg0) (ix2 ⟨t.val * 512 + r.val, by have := lt_points t; omega⟩ k) := by
  blk_point [iblk, V, idx t]

theorem iblk1_at (c : Dev nD) (t : Fin cfg0.N) (r : Fin 512) (k : Fin 1024) :
    iblk m c 1 t (ix2 r k) = m ((c.tc : Thread nD τ).loc main_arg1) (ix2 ⟨t.val * 512 + r.val, by have := lt_points t; omega⟩ k) := by
  blk_point [iblk, V, idx t]

theorem iblk2_at (c : Dev nD) (t : Fin cfg0.N) (r : Fin 512) (k : Fin 1024) :
    iblk m c 2 t (ix2 r k) = m ((c.tc : Thread nD τ).loc main_arg2) (ix2 ⟨t.val * 512 + r.val, by have := lt_points t; omega⟩ k) := by
  blk_point [iblk, V, idx t]

theorem iblk3_at (c : Dev nD) (t : Fin cfg0.N) (r : Fin 512) (k : Fin 128) :
    iblk m c 3 t (ix2 r k) = m ((c.tc : Thread nD τ).loc main_arg3) (ix2 ⟨t.val * 512 + r.val, by have := lt_points t; omega⟩ k) := by
  blk_point [iblk, V, idx t]

theorem iblk4_at (c : Dev nD) (t : Fin cfg0.N) (r : Fin 6) (k : Fin 1024) :
    iblk m c 4 t (ix3 0 r k) = m ((c.tc : Thread nD τ).loc main_arg4) (ix3 ⟨t.val / 16, by have := lt_points t; omega⟩ r k) := by
  blk_point [iblk, V, idx t]

theorem iblk5_at (c : Dev nD) (t : Fin cfg0.N) (k : Fin 1024) :
    iblk m c 5 t (ix2 0 k) = m ((c.tc : Thread nD τ).loc main_arg5) (ix1 k) := by
  blk_point [iblk, idx t]

theorem iblk6_at (c : Dev nD) (t : Fin cfg0.N) (k : Fin 1024) :
    iblk m c 6 t (ix2 0 k) = m ((c.tc : Thread nD τ).loc main_arg6) (ix1 k) := by
  blk_point [iblk, idx t]

/-- The reference's result from the kernel's arguments. -/
abbrev want (c : Dev nD) : Vec Ideal S16384x1024 .f32 :=
  Cert.Reference5Ideal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- What a point stores is the reference's rows at their place. -/
theorem out_point (c : Dev nD) (t : Fin cfg0.N) (r : Fin 512) (d : Fin 1024) :
    out0_7 (iblk m c 0 t) (iblk m c 1 t) (iblk m c 2 t) (iblk m c 3 t) (iblk m c 4 t) (iblk m c 5 t) (iblk m c 6 t) (ix2 r d)
      = want m c (ix2 ⟨t.val * 512 + r.val, by have := lt_points t; omega⟩ d) := by
  have ht := lt_points t
  refine (tile_pay _ _ _ _ _ _ _ r d).trans ?_
  refine Eq.trans ?_ (Cert.Reference5Ideal.Combine.result_at _ _ _ _ _ _ _ _ _).symm
  have q : (t.val * 512 + r.val) / 8192 = t.val / 16 := by omega
  simp only [iblk0_at, iblk1_at, iblk2_at, iblk3_at, iblk4_at, iblk5_at, iblk6_at, q]

/-- The array the kernel leaves is the reference's result. -/
theorem final (c : Dev nD) : (dats m 0 c).arrAt 7 (cfgs 0).N = want m c := by
  refine (dats m 0 c).arrAt_eq_of_covers 7 _ (by decide +kernel) fun t hf y => ?_
  blk_simp
  rw [after0_7]
  idx_vars y
  refine (out_point m c t y0 y1).trans (congrArg (want m c) ?_)
  blk_ext [idx t]

end Cert.Kernel5Ideal.Combine
end
-- ==== Proof.PoolSpec.lean ====
module

public import proofs.«01_k».proof.Proof.RowMath

/-! # What the pooling mixer makes of the rows of one sequence

A row of the mixer's input is modulated and multiplied into `Z`. The 1024 columns of `Z` fall into four groups of
256, and group `g` averages over the last `2 ^ (g + 1)` rows (over fewer at the start of the sequence), subtracts
the row itself and mixes the group's columns. -/

@[expose] public section

set_option maxRecDepth 16384

noncomputable section

open Idealize.ShloMosaic Idealize.ShloMosaic.TcCoe

namespace Cert.PoolSpec

open Cert.RowMath

/-- The value `k` rows before row `s` of a sequence, 0 before its start. -/
def prev (Z : Fin 8192 → EReal) (s : Fin 8192) (k : ℕ) : EReal :=
  if h : k ≤ s.val then Z ⟨s.val - k, by omega⟩ else 0

/-- The mean over the last `n` rows (those of them that exist), less the row itself. -/
def pooled (Z : Fin 8192 → EReal) (n : ℕ) (s : Fin 8192) : EReal :=
  Ideal.div (∑ k ∈ Finset.range n, prev Z s k) ((min (s.val + 1) n : ℕ) : EReal) - Z s

/-- Column `c` of the mixed and scaled row `s`. -/
def mixed (Z : Fin 8192 → Fin 1024 → EReal) (wg : Fin 4 → Fin 256 → Fin 256 → EReal) (ls : Fin 1024 → EReal)
    (s : Fin 8192) (c : Fin 1024) : EReal :=
  (∑ k : Fin 256, pooled (fun s => Z s ⟨c / 256 * 256 + k, by omega⟩) (2 ^ (c.val / 256 + 1)) s
    * wg ⟨c / 256, by omega⟩ k ⟨c % 256, by omega⟩) * ls c

/-- The same, with the column given as column `d` of group `g`. -/
theorem mixed_eq (Z : Fin 8192 → Fin 1024 → EReal) (wg : Fin 4 → Fin 256 → Fin 256 → EReal) (ls : Fin 1024 → EReal)
    (s : Fin 8192) (g : Fin 4) (d : Fin 256) (c : Fin 1024) (h : c.val = g.val * 256 + d.val) :
    mixed Z wg ls s c = (∑ k : Fin 256, pooled (fun s => Z s ⟨g.val * 256 + k.val, by omega⟩) (2 ^ (g.val + 1)) s * wg g k d) * ls c := by
  have key : ∀ (g' : Fin 4) (d' : Fin 256), g' = g → d' = d →
      (∑ k : Fin 256, pooled (fun s => Z s ⟨g'.val * 256 + k.val, by omega⟩) (2 ^ (g'.val + 1)) s * wg g' k d') * ls c
        = (∑ k : Fin 256, pooled (fun s => Z s ⟨g.val * 256 + k.val, by omega⟩) (2 ^ (g.val + 1)) s * wg g k d) * ls c := by
    rintro _ _ rfl rfl; rfl
  exact key ⟨c.val / 256, by omega⟩ ⟨c.val % 256, by omega⟩ (Fin.ext (by show c.val / 256 = g.val; omega))
    (Fin.ext (by show c.val % 256 = d.val; omega))

/-- A count as both programs make it, a whole number turned into a number. -/
theorem number (n : ℕ) (h : n < 2 ^ 31) : (FloatOps.sitofp FTy.f32 (BitVec.ofNat 32 n) : Ideal FTy.f32) = (n : EReal) := by
  have e : (BitVec.ofNat 32 n).toInt = (n : ℤ) := by
    rw [BitVec.toInt_ofNat', Int.bmod_eq_of_le] <;> omega
  show ((((BitVec.ofNat 32 n).toInt : ℤ) : ℝ) : EReal) = _
  rw [e]; simp

/-- The reference's count of the rows in a window. -/
theorem count_at (s : Fin 8192) (n : ℕ) (hn : n ≤ 16) :
    (FloatOps.sitofp FTy.f32 (IntOp.minsi (IntOp.addi (BitVec.ofNat 32 s.val) 1#32) (BitVec.ofNat 32 n)) : Ideal FTy.f32)
      = ((min (s.val + 1) n : ℕ) : EReal) := by
  have e : IntOp.minsi (IntOp.addi (BitVec.ofNat 32 s.val) 1#32) (BitVec.ofNat 32 n) = BitVec.ofNat 32 (min (s.val + 1) n) := by
    have h1 : IntOp.addi (BitVec.ofNat 32 s.val) 1#32 = BitVec.ofNat 32 (s.val + 1) := (BitVec.ofNat_add ..).symm
    have t1 : (BitVec.ofNat 32 (s.val + 1)).toInt = ((s.val + 1 : ℕ) : ℤ) := by
      rw [BitVec.toInt_ofNat', Int.bmod_eq_of_le] <;> omega
    have t2 : (BitVec.ofNat 32 n).toInt = (n : ℤ) := by
      rw [BitVec.toInt_ofNat', Int.bmod_eq_of_le] <;> omega
    rw [h1]
    simp only [IntOp.minsi, BitVec.slt, t1, t2]
    by_cases h : s.val + 1 < n
    · simp [show min (s.val + 1) n = s.val + 1 by omega, show ((s.val : ℤ) + 1 < n) by omega, h]
    · simp [show min (s.val + 1) n = n by omega, show ¬ ((s.val : ℤ) + 1 < n) by omega, h]
  rw [e, number _ (by omega)]

end Cert.PoolSpec
end
-- ==== Proof.PoolReference.lean ====
module

public import proofs.«01_k».proof.Proof.Gen.Reference6Ideal.Read
public import proofs.«01_k».proof.Proof.PoolSpec

/-! # The reference of the pooling mixer, row by row -/

@[expose] public section

set_option maxRecDepth 16384

noncomputable section

open Idealize.ShloMosaic Idealize.ShloMosaic.TcCoe Idealize.SL.Sem

namespace Cert.Reference6Ideal.Pool

open Cert.Reference6Ideal Cert.Reference6Ideal.Gen Cert.Reference6Ideal.Read Cert.RowMath Cert.PoolSpec

variable (x0 : Vec Ideal S16384x1024 .f32) (x1 : Vec Ideal S2x6x1024 .f32) (x2 : Vec Ideal S1024x1024 .f32)
  (x3 : Vec Ideal S4x256x256 .f32) (x4 : Vec Ideal S1024 .f32) (x5 : Vec Ideal S1024x1024 .f32) (x6 x7 : Vec Ideal S1024 .f32)

/-- Row `s` of sequence `b` of the first product. -/
abbrev zRow (b : Fin 2) (s : Fin 8192) : Fin 1024 → EReal :=
  mulRow (modulate (fun k => x0 (ix2 (⟨b * 8192 + s, by omega⟩ : Fin 16384) k)) (fun k => x1 (ix3 b 1 k)) fun k => x1 (ix3 b 0 k))
    fun k j => x2 (ix2 k j)

theorem z_at (b : Fin 2) (s : Fin 8192) (c : Fin 1024) :
    val_main_v10 (F := Ideal) x0 x1 x2 (ix3 b s c) = zRow x0 x1 x2 b s c := by
  pointwise [val_main_v10, val_main_v9, val_main_v8, val_main_v7, val_main_v6, val_main_v5, val_main_v4, val_main_v2, val_main_v1, val_main_v0, val_main_cst]
  rfl

theorem pad_at (b : Fin 2) (p : Fin 8207) (c : Fin 1024) :
    val_main_v11 (F := Ideal) x0 x1 x2 (ix3 b p c) = if h : 15 ≤ p.val then zRow x0 x1 x2 b ⟨p - 15, by omega⟩ c else 0 := by
  pointwise [val_main_v11, val_main_call0_v0, val_main_c]
  simp only [z_at]
  have e : (FloatOps.sitofp FTy.f32 0#32 : Ideal FTy.f32) = (0 : EReal) := by simp [FloatOps.sitofp]
  rw [e]
  by_cases h : 15 ≤ p.val
  · rw [dif_pos h, dif_pos ⟨h, by omega⟩]
  · rw [dif_neg h, dif_neg fun q => h q.1]

/-- The padded rows hold, `k` places back, the row `k` before. -/
theorem pad_prev (b : Fin 2) (s : Fin 8192) (c : Fin 1024) (k : ℕ) (hk : k ≤ 15) (p : Fin 8207) (hp : p.val + k = 15 + s.val) :
    val_main_v11 (F := Ideal) x0 x1 x2 (ix3 b p c) = prev (fun s => zRow x0 x1 x2 b s c) s k := by
  rw [pad_at, prev]
  by_cases h : k ≤ s.val
  · have e : ∀ h', (⟨p.val - 15, h'⟩ : Fin 8192) = ⟨s.val - k, by omega⟩ := fun _ => Fin.ext (by
      show p.val - 15 = s.val - k; omega)
    rw [dif_pos h, dif_pos (by omega), e]
  · rw [dif_neg h, dif_neg (by omega)]

theorem count0 (s : Fin 8192) : val_main_v22 (F := Ideal) (ix1 s) = ((min (s.val + 1) 2 : ℕ) : EReal) := by
  pointwise [val_main_v22, val_main_v21, val_main_v20, val_main_v19, val_main_v18, val_main_c_1, val_main_c_2, val_main_v12]
  exact count_at s 2 (by omega)

theorem pooled0 (b : Fin 2) (s : Fin 8192) (c : Fin 256) :
    val_main_v27 (F := Ideal) x0 x1 x2 (ix3 b s c) = pooled (fun s => zRow x0 x1 x2 b s ⟨c.val, by omega⟩) 2 s := by
  pointwise [val_main_v27, val_main_v26, val_main_v25, val_main_v24, val_main_v23, val_main_v17, val_main_v16, val_main_v15, val_main_v14, val_main_v13, val_main_cst_0]
  simp only [z_at, count0, pooled, Finset.sum_range_succ, Finset.sum_range_zero, zero_add]
  refine congrArg (fun q => Ideal.div q _ - _) ?_
  iterate 1 refine congrArg₂ (fun p q : EReal => p + q) ?_ (pad_prev x0 x1 x2 b s _ _ (by omega) _ (by dsimp only; omega))
  exact pad_prev x0 x1 x2 b s _ _ (by omega) _ (by dsimp only; omega)

theorem mixed0 (b : Fin 2) (s : Fin 8192) (c : Fin 1024) (d : Fin 256) (h : c.val = 0 * 256 + d.val) :
    val_main_v30 (F := Ideal) x0 x1 x2 x3 (ix3 b s d) * x4 (ix1 c)
      = mixed (zRow x0 x1 x2 b) (fun g k d => x3 (ix3 g k d)) (fun c => x4 (ix1 c)) s c := by
  rw [mixed_eq _ _ _ s 0 d c h]
  pointwise [val_main_v30, val_main_v29, val_main_v28]
  simp only [pooled0]
  rfl

theorem count1 (s : Fin 8192) : val_main_v44 (F := Ideal) (ix1 s) = ((min (s.val + 1) 4 : ℕ) : EReal) := by
  pointwise [val_main_v44, val_main_v43, val_main_v42, val_main_v41, val_main_v40, val_main_c_4, val_main_c_5, val_main_v12]
  exact count_at s 4 (by omega)

theorem pooled1 (b : Fin 2) (s : Fin 8192) (c : Fin 256) :
    val_main_v49 (F := Ideal) x0 x1 x2 (ix3 b s c) = pooled (fun s => zRow x0 x1 x2 b s ⟨1 * 256 + c.val, by omega⟩) 4 s := by
  have ec : ∀ h, (⟨256 + c.val, h⟩ : Fin 1024) = ⟨1 * 256 + c.val, by omega⟩ := fun _ => Fin.ext (by first | omega | (dsimp only; omega) | dsimp only)
  pointwise [val_main_v49, val_main_v48, val_main_v47, val_main_v46, val_main_v45, val_main_v39, val_main_v38, val_main_v37, val_main_v36, val_main_v35, val_main_v34, val_main_v33, val_main_v32, val_main_v31, val_main_cst_3]
  simp only [ec, z_at, count1, pooled, Finset.sum_range_succ, Finset.sum_range_zero, zero_add]
  refine congrArg (fun q => Ideal.div q _ - _) ?_
  iterate 3 refine congrArg₂ (fun p q : EReal => p + q) ?_ (pad_prev x0 x1 x2 b s _ _ (by omega) _ (by dsimp only; omega))
  exact pad_prev x0 x1 x2 b s _ _ (by omega) _ (by dsimp only; omega)

theorem mixed1 (b : Fin 2) (s : Fin 8192) (c : Fin 1024) (d : Fin 256) (h : c.val = 1 * 256 + d.val) :
    val_main_v52 (F := Ideal) x0 x1 x2 x3 (ix3 b s d) * x4 (ix1 c)
      = mixed (zRow x0 x1 x2 b) (fun g k d => x3 (ix3 g k d)) (fun c => x4 (ix1 c)) s c := by
  rw [mixed_eq _ _ _ s 1 d c h]
  pointwise [val_main_v52, val_main_v51, val_main_v50]
  simp only [pooled1]
  rfl

theorem count2 (s : Fin 8192) : val_main_v74 (F := Ideal) (ix1 s) = ((min (s.val + 1) 8 : ℕ) : EReal) := by
  pointwise [val_main_v74, val_main_v73, val_main_v72, val_main_v71, val_main_v70, val_main_c_7, val_main_c_8, val_main_v12]
  exact count_at s 8 (by omega)

theorem pooled2 (b : Fin 2) (s : Fin 8192) (c : Fin 256) :
    val_main_v79 (F := Ideal) x0 x1 x2 (ix3 b s c) = pooled (fun s => zRow x0 x1 x2 b s ⟨2 * 256 + c.val, by omega⟩) 8 s := by
  have ec : ∀ h, (⟨512 + c.val, h⟩ : Fin 1024) = ⟨2 * 256 + c.val, by omega⟩ := fun _ => Fin.ext (by first | omega | (dsimp only; omega) | dsimp only)
  pointwise [val_main_v79, val_main_v78, val_main_v77, val_main_v76, val_main_v75, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_6]
  simp only [ec, z_at, count2, pooled, Finset.sum_range_succ, Finset.sum_range_zero, zero_add]
  refine congrArg (fun q => Ideal.div q _ - _) ?_
  iterate 7 refine congrArg₂ (fun p q : EReal => p + q) ?_ (pad_prev x0 x1 x2 b s _ _ (by omega) _ (by dsimp only; omega))
  exact pad_prev x0 x1 x2 b s _ _ (by omega) _ (by dsimp only; omega)

theorem mixed2 (b : Fin 2) (s : Fin 8192) (c : Fin 1024) (d : Fin 256) (h : c.val = 2 * 256 + d.val) :
    val_main_v82 (F := Ideal) x0 x1 x2 x3 (ix3 b s d) * x4 (ix1 c)
      = mixed (zRow x0 x1 x2 b) (fun g k d => x3 (ix3 g k d)) (fun c => x4 (ix1 c)) s c := by
  rw [mixed_eq _ _ _ s 2 d c h]
  pointwise [val_main_v82, val_main_v81, val_main_v80]
  simp only [pooled2]
  rfl

theorem count3 (s : Fin 8192) : val_main_v120 (F := Ideal) (ix1 s) = ((min (s.val + 1) 16 : ℕ) : EReal) := by
  pointwise [val_main_v120, val_main_v119, val_main_v118, val_main_v117, val_main_v116, val_main_c_10, val_main_c_11, val_main_v12]
  exact count_at s 16 (by omega)

theorem pooled3 (b : Fin 2) (s : Fin 8192) (c : Fin 256) :
    val_main_v125 (F := Ideal) x0 x1 x2 (ix3 b s c) = pooled (fun s => zRow x0 x1 x2 b s ⟨3 * 256 + c.val, by omega⟩) 16 s := by
  have ec : ∀ h, (⟨768 + c.val, h⟩ : Fin 1024) = ⟨3 * 256 + c.val, by omega⟩ := fun _ => Fin.ext (by first | omega | (dsimp only; omega) | dsimp only)
  pointwise [val_main_v125, val_main_v124, val_main_v123, val_main_v122, val_main_v121, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_9]
  simp only [ec, z_at, count3, pooled, Finset.sum_range_succ, Finset.sum_range_zero, zero_add]
  refine congrArg (fun q => Ideal.div q _ - _) ?_
  iterate 15 refine congrArg₂ (fun p q : EReal => p + q) ?_ (pad_prev x0 x1 x2 b s _ _ (by omega) _ (by dsimp only; omega))
  exact pad_prev x0 x1 x2 b s _ _ (by omega) _ (by dsimp only; omega)

theorem mixed3 (b : Fin 2) (s : Fin 8192) (c : Fin 1024) (d : Fin 256) (h : c.val = 3 * 256 + d.val) :
    val_main_v128 (F := Ideal) x0 x1 x2 x3 (ix3 b s d) * x4 (ix1 c)
      = mixed (zRow x0 x1 x2 b) (fun g k d => x3 (ix3 g k d)) (fun c => x4 (ix1 c)) s c := by
  rw [mixed_eq _ _ _ s 3 d c h]
  pointwise [val_main_v128, val_main_v127, val_main_v126]
  simp only [pooled3]
  rfl

theorem mixed_at (b : Fin 2) (s : Fin 8192) (c : Fin 1024) :
    val_main_v132 (F := Ideal) x0 x1 x2 x3 x4 (ix3 b s c)
      = mixed (zRow x0 x1 x2 b) (fun g k d => x3 (ix3 g k d)) (fun c => x4 (ix1 c)) s c := by
  pointwise [val_main_v132, val_main_v131, val_main_v130, val_main_v129]
  split
  · exact mixed0 x0 x1 x2 x3 x4 b s c _ (by dsimp only; omega)
  split
  · exact mixed1 x0 x1 x2 x3 x4 b s c _ (by dsimp only; omega)
  split
  · exact mixed2 x0 x1 x2 x3 x4 b s c _ (by dsimp only; omega)
  · exact mixed3 x0 x1 x2 x3 x4 b s c _ (by dsimp only; omega)

theorem residual_at (b : Fin 2) (s : Fin 8192) (d : Fin 1024) :
    val_main_v140 (F := Ideal) x0 x1 x2 x3 x4 x5 (ix3 b s d)
      = residual (fun k => x0 (ix2 (⟨b * 8192 + s, by omega⟩ : Fin 16384) k)) (fun k => x1 (ix3 b 2 k))
          (mulRow (mixed (zRow x0 x1 x2 b) (fun g k d => x3 (ix3 g k d)) (fun c => x4 (ix1 c)) s) fun k d => x5 (ix2 k d)) d := by
  pointwise [val_main_v140, val_main_v139, val_main_v138, val_main_v137, val_main_v136, val_main_v135, val_main_v134, val_main_v133,
    val_main_v3, val_main_v0, val_main_cst_12, val_main_cst_13]
  simp only [mixed_at]
  rfl

theorem norm_at (b : Fin 2) (s : Fin 8192) (d : Fin 1024) :
    val_main_v164 (F := Ideal) x0 x1 x2 x3 x4 x5 x6 x7 (ix3 b s d)
      = norm width1024 (fun d => val_main_v140 (F := Ideal) x0 x1 x2 x3 x4 x5 (ix3 b s d)) (fun d => x6 (ix1 d)) (fun d => x7 (ix1 d)) d := by
  pointwise [val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_cst_14, val_main_cst_15, val_main_cst_16, val_main_cst_17, val_main_cst_18]
  rfl

/-- Row `i` of the result. -/
theorem result_at (i : Fin 16384) (d : Fin 1024) :
    val_main_v165 (F := Ideal) x0 x1 x2 x3 x4 x5 x6 x7 (ix2 i d)
      = norm width1024 (residual (fun k => x0 (ix2 i k)) (fun k => x1 (ix3 ⟨i / 8192, by omega⟩ 2 k))
          (mulRow (mixed (zRow x0 x1 x2 ⟨i / 8192, by omega⟩) (fun g k d => x3 (ix3 g k d)) (fun c => x4 (ix1 c)) ⟨i % 8192, by omega⟩)
            fun k d => x5 (ix2 k d))) (fun d => x6 (ix1 d)) (fun d => x7 (ix1 d)) d := by
  have e1 : ∀ h : i.val / 8192 * 8192 + i.val % 8192 < 16384, (⟨i.val / 8192 * 8192 + i.val % 8192, h⟩ : Fin 16384) = i :=
    fun _ => Fin.ext (by show i.val / 8192 * 8192 + i.val % 8192 = i.val; omega)
  have e2 : val_main_v165 (F := Ideal) x0 x1 x2 x3 x4 x5 x6 x7 (ix2 i d)
      = val_main_v164 (F := Ideal) x0 x1 x2 x3 x4 x5 x6 x7 (ix3 ⟨i / 8192, by omega⟩ ⟨i % 8192, by omega⟩ d) := by
    pointwise [val_main_v165]
  rw [e2]
  simp only [norm_at, residual_at, e1]

end Cert.Reference6Ideal.Pool
end
-- ==== Proof.PoolPayload.lean ====
module

public import proofs.«01_k».proof.Proof.Gen.Kernel6Ideal.Skeleton
public import Idealize.ShloMosaic.Lib.Claim
public import Idealize.ShloMosaic.Lib.KernelVsHost
public import proofs.«01_k».proof.Proof.PoolSpec

/-! # What the pooling mixer's kernel computes for one tile -/

@[expose] public section

set_option maxRecDepth 16384

noncomputable section

open Idealize.ShloMosaic Idealize.ShloMosaic.TcCoe Idealize.SL.Sem

namespace Cert.Kernel6Ideal.Pool

open Cert.Kernel6Ideal Cert.Kernel6Ideal.Gen Cert.RowMath Cert.PoolSpec

/-- The first position of a tile in its sequence, as the kernel computes it from the tile's number. -/
def pos0 (n : BitVec 32) : BitVec 32 :=
  let q : BitVec 32 := Scalar.select (Scalar.cmpi CmpIPredicate.eq 8192#32 0#32) 1#32 8192#32
  let v : BitVec 32 := Scalar.remsi (Scalar.muli n 512#32) q
  Scalar.select (Scalar.andi (Scalar.xori (Scalar.cmpi CmpIPredicate.slt v 0#32) (Scalar.cmpi CmpIPredicate.slt q 0#32))
    (Scalar.cmpi CmpIPredicate.ne v 0#32)) (Scalar.addi v q) v

theorem pos0_at : ∀ t : Fin grid0.N, pos0 (BitVec.ofNat 32 (grid0.coords t 0).val) = BitVec.ofNat 32 (t.val % 16 * 512) :=
  (by decide +kernel : ∀ t : Fin grid0.N, _)

theorem inside_at : ∀ t : Fin grid0.N, Scalar.cmpi CmpIPredicate.sgt (pos0 (BitVec.ofNat 32 (grid0.coords t 0).val)) 0#32
    = if t.val % 16 = 0 then 0#1 else 1#1 :=
  (by decide +kernel : ∀ t : Fin grid0.N, _)

theorem row_bit : ∀ p : Fin 528, IntOp.cmpi CmpIPredicate.slt (BitVec.ofNat 32 p.val) 16#32 = if p.val < 16 then 1#1 else 0#1 := by
  decide +kernel

/-- The factor of a row: 0 in the first 16 rows of a sequence's first tile, 1 elsewhere. -/
theorem halo_at (t : Fin grid0.N) (p : Fin 528) :
    k0_pay4 (F := Ideal) (grid0.coords t) (ix2 p 0) = if t.val % 16 = 0 ∧ p.val < 16 then (0 : EReal) else 1 := by
  pointwise [k0_pay4]
  show Scalar.select (IntOp.cmpi CmpIPredicate.slt (BitVec.ofNat 32 p.val) 16#32)
    (Scalar.select (Scalar.cmpi CmpIPredicate.sgt (pos0 (BitVec.ofNat 32 (grid0.coords t 0).val)) 0#32) (1 : EReal) 0) 1 = _
  rw [inside_at, row_bit]
  by_cases h1 : p.val < 16 <;> by_cases h2 : t.val % 16 = 0 <;> simp [h1, h2, Scalar.select]

theorem bits2 : Ideal.ofBits FTy.f32 1073741824#32 = ((2 : ℕ) : EReal) := by
  simp [Ideal.ofBits, Ideal.ieee]; norm_cast; norm_num; first | rfl | exact EReal.coe_natCast | (norm_cast)
theorem bits4 : Ideal.ofBits FTy.f32 1082130432#32 = ((4 : ℕ) : EReal) := by
  simp [Ideal.ofBits, Ideal.ieee]; norm_cast; norm_num; first | rfl | exact EReal.coe_natCast | (norm_cast)
theorem bits8 : Ideal.ofBits FTy.f32 1090519040#32 = ((8 : ℕ) : EReal) := by
  simp [Ideal.ofBits, Ideal.ieee]; norm_cast; norm_num; first | rfl | exact EReal.coe_natCast | (norm_cast)
theorem bits16 : Ideal.ofBits FTy.f32 1098907648#32 = ((16 : ℕ) : EReal) := by
  simp [Ideal.ofBits, Ideal.ieee]; norm_cast; norm_num; first | rfl | exact EReal.coe_natCast | (norm_cast)

section payloads

/-- The rows of a group added to themselves `a` rows down. -/
def rolled (a : BitVec 32) (y : FVec Ideal S528x256 .f32) : FVec Ideal S528x256 .f32 :=
  addf y (dynamicRotate 0 a none y rotates_S528x256_d0)

/-- What the kernel stores for a group whose rows are `y` and whose window sums are `S`, the window's length given as the
    word `b`. -/
def stored (b : BitVec 32) (v43 : FVec Ideal S512x1 .f32) (y S : FVec Ideal S528x256 .f32) (g : Vec Ideal S1x256x256 .bf16)
    (l : Vec Ideal S1x256 .f32) : FVec Ideal S512x256 .bf16 :=
  shapeCast S512x256 (truncf .bf16 (mulf (matmul dot_S512x256_S256x256_S512x256_1_0_0_1_n_n none
    (truncf .bf16 (subf (divf (extractStridedSlice S512x256 ![16, 0] S slices_S528x256_o16_0_S512x256)
        (broadcastTo S512x256 (minimumf v43 (broadcast S512x1 (Scalar.ofBits .f32 b))) broadcasts_S512x1_S512x256))
      (extractStridedSlice S512x256 ![16, 0] y slices_S528x256_o16_0_S512x256)) bitsLt_bf16_f32)
    (shapeCast S256x256 g shapeCasts_S1x256x256_S256x256 : FVec Ideal S256x256 .bf16) (constant S512x256 .f32 0x00000000#32))
    (broadcastTo S512x256 (shapeCast S1x256 l shapeCasts_S1x256_S1x256 : FVec Ideal S1x256 .f32) broadcasts_S1x256_S512x256)) bitsLt_bf16_f32)
    shapeCasts_S512x256_S512x256

variable (U : FVec Ideal S528x1024 .f32) (v29 : FVec Ideal S528x1024 .f32) (v35 : FVec Ideal S528x1 .f32) (w : BitVec 32)
  (v43 : FVec Ideal S512x1 .f32) (y S : FVec Ideal S528x256 .f32)
  (g : Vec Ideal S1x256x256 .bf16) (l : Vec Ideal S1x256 .f32) (r : Fin 512) (d : Fin 256) (c : Fin 1024)
  (Z : Fin 8192 → Fin 1024 → EReal) (wg : Fin 4 → Fin 256 → Fin 256 → EReal) (ls : Fin 1024 → EReal) (s : Fin 8192)

/-- The rows of group 0 to 3. -/
abbrev part0 : FVec Ideal S528x256 .f32 := extractStridedSlice S528x256 ![0, 0] U slices_S528x1024_o0_0_S528x256
abbrev part1 : FVec Ideal S528x256 .f32 := extractStridedSlice S528x256 ![0, 256] U slices_S528x1024_o0_256_S528x256
abbrev part2 : FVec Ideal S528x256 .f32 := extractStridedSlice S528x256 ![0, 512] U slices_S528x1024_o0_512_S528x256
abbrev part3 : FVec Ideal S528x256 .f32 := extractStridedSlice S528x256 ![0, 768] U slices_S528x1024_o0_768_S528x256

theorem stored0 : k0_pay7 w v29 v35 g l = stored 0x40000000#32 (k0_pay6 w) (part0 (k0_pay5 v29 v35)) (rolled 1#32 (part0 (k0_pay5 v29 v35))) g l := rfl
theorem stored1 : k0_pay9 (k0_pay8 w v29 v35) g l
    = stored 0x40800000#32 (k0_pay6 w) (part1 (k0_pay5 v29 v35)) (rolled 2#32 (rolled 1#32 (part1 (k0_pay5 v29 v35)))) g l := rfl
theorem stored2 : k0_pay10 U v43 g l = stored 0x41000000#32 v43 (part2 U) (rolled 4#32 (rolled 2#32 (rolled 1#32 (part2 U)))) g l := rfl
theorem stored3 : k0_pay13 v43 (k0_pay11 U) (k0_pay12 U) g l
    = stored 0x41800000#32 v43 (part3 U) (rolled 8#32 (rolled 4#32 (rolled 2#32 (rolled 1#32 (part3 U))))) g l := rfl

theorem part0_at (p : Fin 528) (x : Fin 256) : part0 U (ix2 p x) = U (ix2 p ⟨x.val, by omega⟩) := by
  pointwise [part0]
theorem part1_at (p : Fin 528) (x : Fin 256) : part1 U (ix2 p x) = U (ix2 p ⟨256 + x.val, by omega⟩) := by
  pointwise [part1]
theorem part2_at (p : Fin 528) (x : Fin 256) : part2 U (ix2 p x) = U (ix2 p ⟨512 + x.val, by omega⟩) := by
  pointwise [part2]
theorem part3_at (p : Fin 528) (x : Fin 256) : part3 U (ix2 p x) = U (ix2 p ⟨768 + x.val, by omega⟩) := by
  pointwise [part3]

theorem stored_at (b : BitVec 32) : stored b v43 y S g l (ix2 r d)
    = (∑ x : Fin 256, (Ideal.div (S (ix2 ⟨16 + r.val, by omega⟩ x)) (min (v43 (ix2 r 0)) (Ideal.ofBits FTy.f32 b)) - y (ix2 ⟨16 + r.val, by omega⟩ x))
        * g (ix3 0 x d)) * l (ix2 0 d) := by
  pointwise [stored]

theorem rolled_at (a : ℕ) (p : Fin 528) (h : a ≤ p.val) (x : Fin 256) :
    rolled (BitVec.ofNat 32 a) y (ix2 p x) = y (ix2 p x) + y (ix2 ⟨p.val - a, by omega⟩ x) := by
  refine congrArg (fun q : EReal => y (ix2 p x) + q) (dynamicRotate_apply 0 _ y _ (ix2 p x) (ix2 ⟨p.val - a, by omega⟩ x) fun b => ?_)
  have e : (BitVec.ofNat 32 a).toNat = a := by rw [BitVec.toNat_ofNat]; omega
  match b with
  | ⟨0, _⟩ => show p.val - a = (p.val + 528 - (BitVec.ofNat 32 a).toNat % 528) % 528; rw [e]; omega
  | ⟨1, _⟩ => rfl

/-- `S` holds at every row the sum of the last `n` rows of `y`, away from the first rows. -/
def Windows (n : ℕ) : Prop := ∀ (p : Fin 528) (x : Fin 256), n ≤ p.val + 1 →
  S (ix2 p x) = ∑ k ∈ Finset.range n, y (ix2 ⟨p.val - k, by omega⟩ x)

theorem windows_one : Windows y y 1 := fun p x _ => by simp

theorem windows_double (n : ℕ) (h : Windows y S n) : Windows y (rolled (BitVec.ofNat 32 n) S) (n + n) := fun p x hp => by
  rw [rolled_at _ _ _ (by omega), h p x (by omega)]
  by_cases h0 : n = 0
  · subst h0
    rw [h ⟨p.val - 0, by omega⟩ x (by omega)]; simp
  rw [h ⟨p.val - n, by omega⟩ x (by dsimp only; omega), Finset.sum_range_add]
  refine congrArg (fun q : EReal => _ + q) (Finset.sum_congr rfl fun k _ => ?_)
  exact congrArg (fun q => y (ix2 q x)) (Fin.ext (Nat.sub_sub _ _ _))

/-- The rows of a tile, with the 16 before it, are rows of the sequence as seen from row `s`. -/
def Agrees : Prop := ∀ (k : ℕ) (_ : k ≤ 15) (p : Fin 528) (_ : p.val + k = 16 + r.val) (c c' : Fin 1024) (_ : c.val = c'.val),
  U (ix2 p c) = prev (fun s => Z s c') s k

theorem count_pay (hw : w = BitVec.ofNat 32 (s.val - r.val)) (hs : r.val ≤ s.val) (n : ℕ) :
    min (k0_pay6 (F := Ideal) w (ix2 r 0)) ((n : ℕ) : EReal) = ((min (s.val + 1) n : ℕ) : EReal) := by
  have e : k0_pay6 (F := Ideal) w (ix2 r 0) = ((s.val + 1 : ℕ) : EReal) := by
    pointwise [k0_pay6]
    have e1 : IntOp.addi (IntOp.addi w (BitVec.ofNat 32 r.val)) 1#32 = BitVec.ofNat 32 (s.val + 1) := by
      rw [hw]
      show BitVec.ofNat 32 (s.val - r.val) + BitVec.ofNat 32 r.val + BitVec.ofNat 32 1 = _
      rw [← BitVec.ofNat_add, ← BitVec.ofNat_add]
      congr 1; omega
    rw [e1, number _ (by omega)]
  rw [e]
  rcases le_total (s.val + 1) n with h | h
  · rw [min_eq_left h, min_eq_left (EReal.natCast_le_iff.mpr h)]
  · rw [min_eq_right h, min_eq_right (EReal.natCast_le_iff.mpr h)]

/-- What the kernel stores for group `G`, whose window has length `n`. -/
theorem piece (G : Fin 4) (n : ℕ) (b : BitVec 32) (hn : n = 2 ^ (G.val + 1)) (hb : Ideal.ofBits FTy.f32 b = (n : EReal)) (hS : Windows y S n)
    (hU : Agrees U r Z s) (hy : ∀ p x, y (ix2 p x) = U (ix2 p ⟨G.val * 256 + x.val, by omega⟩))
    (hw : w = BitVec.ofNat 32 (s.val - r.val)) (hs : r.val ≤ s.val)
    (hg : ∀ k, g (ix3 0 k d) = wg G k d) (hl : l (ix2 0 d) = ls c) (hc : c.val = G.val * 256 + d.val) :
    stored b (k0_pay6 w) y S g l (ix2 r d) = mixed Z wg ls s c := by
  have hn16 : n ≤ 16 := hn ▸ (by decide : ∀ G : Fin 4, 2 ^ (G.val + 1) ≤ 16) G
  rw [mixed_eq _ _ _ s G d c hc, stored_at, hl, hb, count_pay w r s hw hs n, ← hn]
  refine congrArg (fun q : EReal => q * ls c) (Finset.sum_congr rfl fun x _ => ?_)
  rw [hg x]
  refine congrArg (fun q : EReal => q * wg G x d) ?_
  rw [pooled, hS _ _ (by dsimp only; omega)]
  refine congrArg₂ (fun p q : EReal => p - q) (congrArg (fun q : EReal => Ideal.div q _) (Finset.sum_congr rfl fun k hk => ?_)) ?_
  · have hk' := Finset.mem_range.mp hk
    rw [hy]
    exact hU k (by omega) _ (by dsimp only; omega) _ _ rfl
  · rw [hy]
    refine (hU 0 (by omega) _ (by dsimp only; omega) _ ⟨G.val * 256 + x.val, by omega⟩ rfl).trans ?_
    rw [prev, dif_pos (Nat.zero_le _)]
    rfl

/-- The first product of row `p` of a tile and the 16 rows before it. -/
theorem product_pay (x0 : Vec Ideal S512x1024 .f32) (xh : Vec Ideal S16x1024 .f32) (x1 : Vec Ideal S1x6x1024 .f32) (x2 : Vec Ideal S1024x1024 .bf16)
    (p : Fin 528) (c : Fin 1024) : k0_pay3 x1 x0 xh x2 (ix2 p c)
      = if h : p.val < 16 then mulRow (modulate (fun k => xh (ix2 ⟨p.val, h⟩ k)) (fun k => x1 (ix3 0 1 k)) fun k => x1 (ix3 0 0 k)) (fun k j => x2 (ix2 k j)) c
        else mulRow (modulate (fun k => x0 (ix2 ⟨p.val - 16, by omega⟩ k)) (fun k => x1 (ix3 0 1 k)) fun k => x1 (ix3 0 0 k)) (fun k j => x2 (ix2 k j)) c := by
  pointwise [k0_pay3, k0_pay2]
  by_cases h : p.val < 16
  · rw [dif_pos h]
    exact Finset.sum_congr rfl fun x _ =>
      congrArg (fun q : EReal => (q * (1 + x1 (ix3 0 1 x)) + x1 (ix3 0 0 x)) * x2 (ix2 x c)) (dif_pos h)
  · rw [dif_neg h]
    exact Finset.sum_congr rfl fun x _ =>
      congrArg (fun q : EReal => (q * (1 + x1 (ix3 0 1 x)) + x1 (ix3 0 0 x)) * x2 (ix2 x c)) (dif_neg h)

theorem out_norm (a b : Vec Ideal S1x1024 .f32) (v0 : Vec Ideal S512x1024 .f32) (v1 : Vec Ideal S1x6x1024 .f32) (y : Vec Ideal S512x1024 .bf16)
    (wo : Vec Ideal S1024x1024 .bf16) (r : Fin 512) (d : Fin 1024) (Γ : Fin 1024 → EReal) (hy : ∀ c, y (ix2 r c) = Γ c) :
    k0_pay1 (k0_pay14 y wo) (k0_pay15 a) (k0_pay16 b) (k0_pay17 v0) (k0_pay18 (k0_pay2 v1)) (ix2 r d)
      = norm width1024 (residual (fun k => v0 (ix2 r k)) (fun k => v1 (ix3 0 2 k)) (mulRow Γ fun c d => wo (ix2 c d)))
          (fun d => a (ix2 0 d)) (fun d => b (ix2 0 d)) d := by
  rw [← show (fun c => y (ix2 r c)) = Γ from funext hy]
  pointwise [k0_pay1, k0_pay14, k0_pay15, k0_pay16, k0_pay17, k0_pay18, k0_pay2]
  rfl

end payloads

end Cert.Kernel6Ideal.Pool
end
-- ==== Proof.PoolKernel.lean ====
module

public import proofs.«01_k».proof.Proof.Gen.Kernel6Ideal.Value
public import Idealize.ShloMosaic.Lib.Claim
public import proofs.«01_k».proof.Proof.PoolReference
public import proofs.«01_k».proof.Proof.PoolPayload

/-! # The pooling mixer's kernel writes the reference's result -/

@[expose] public section

set_option maxRecDepth 16384

noncomputable section

open Idealize.ShloMosaic Idealize.ShloMosaic.TcCoe Idealize.SL.Sem
open Idealize.ShloMosaic.Pipeline (Dat)

namespace Cert.Kernel6Ideal.Pool

open Cert.Kernel6Ideal Cert.Kernel6Ideal.Gen Cert.RowMath Cert.PoolSpec
variable (m : (ℓ : Loc nD τ sig) → Buf (Elt Ideal) ℓ)

theorem idx : ∀ t : Fin cfg0.N, win0_0.index t = ![t.val, 0] ∧ win0_1.index t = ![t.val * 32 - 1, 0] ∧ win0_2.index t = ![t.val / 16, 0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

theorem lt_points (t : Fin cfg0.N) : t.val < 32 := t.isLt

/-! What each window shows at a point, read off the arguments. -/

theorem iblk0_at (c : Dev nD) (t : Fin cfg0.N) (r : Fin 512) (k : Fin 1024) :
    iblk m c 0 t (ix2 r k) = m ((c.tc : Thread nD τ).loc main_arg0) (ix2 ⟨t.val * 512 + r.val, by have := lt_points t; omega⟩ k) := by
  blk_point [iblk, V, idx t]

theorem iblk1_at (c : Dev nD) (t : Fin cfg0.N) (r : Fin 16) (k : Fin 1024) :
    iblk m c 1 t (ix2 r k) = m ((c.tc : Thread nD τ).loc main_arg0) (ix2 ⟨(t.val * 32 - 1) * 16 + r.val, by have := lt_points t; omega⟩ k) := by
  blk_point [iblk, V, idx t]

theorem iblk2_at (c : Dev nD) (t : Fin cfg0.N) (r : Fin 6) (k : Fin 1024) :
    iblk m c 2 t (ix3 0 r k) = m ((c.tc : Thread nD τ).loc main_arg1) (ix3 ⟨t.val / 16, by have := lt_points t; omega⟩ r k) := by
  blk_point [iblk, V, idx t]

theorem iblk3_at (c : Dev nD) (t : Fin cfg0.N) (r : Fin 1024) (k : Fin 1024) :
    iblk m c 3 t (ix2 r k) = m ((c.tc : Thread nD τ).loc main_arg2) (ix2 r k) := by
  blk_point [iblk, idx t]

theorem iblk4_at (c : Dev nD) (t : Fin cfg0.N) (g : Fin 4) (r s : Fin 256) :
    iblk m c 4 t (ix3 g r s) = m ((c.tc : Thread nD τ).loc main_arg3) (ix3 g r s) := by
  blk_point [iblk, idx t]

theorem iblk5_at (c : Dev nD) (t : Fin cfg0.N) (k : Fin 1024) :
    iblk m c 5 t (ix2 0 k) = m ((c.tc : Thread nD τ).loc main_arg4) (ix1 k) := by
  blk_point [iblk, idx t]

theorem iblk6_at (c : Dev nD) (t : Fin cfg0.N) (r : Fin 1024) (k : Fin 1024) :
    iblk m c 6 t (ix2 r k) = m ((c.tc : Thread nD τ).loc main_arg5) (ix2 r k) := by
  blk_point [iblk, idx t]

theorem iblk7_at (c : Dev nD) (t : Fin cfg0.N) (k : Fin 1024) :
    iblk m c 7 t (ix2 0 k) = m ((c.tc : Thread nD τ).loc main_arg6) (ix1 k) := by
  blk_point [iblk, idx t]

theorem iblk8_at (c : Dev nD) (t : Fin cfg0.N) (k : Fin 1024) :
    iblk m c 8 t (ix2 0 k) = m ((c.tc : Thread nD τ).loc main_arg7) (ix1 k) := by
  blk_point [iblk, idx t]

/-- The reference's result from the kernel's arguments. -/
abbrev want (c : Dev nD) : Vec Ideal S16384x1024 .f32 :=
  Cert.Reference6Ideal.Read.val_main_v165 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The rows of the first product in sequence `b`, from the kernel's arguments. -/
abbrev rows (c : Dev nD) (b : Fin 2) : Fin 8192 → Fin 1024 → EReal :=
  Cert.Reference6Ideal.Pool.zRow (m ((c.tc : Thread nD τ).loc main_arg0)) (m ((c.tc : Thread nD τ).loc main_arg1))
    (m ((c.tc : Thread nD τ).loc main_arg2)) b

/-- The first product of a tile and the 16 rows before it, the rows before the sequence not yet set to zero. -/
abbrev tileP (c : Dev nD) (t : Fin cfg0.N) : FVec Ideal S528x1024 .f32 :=
  k0_pay3 (iblk m c 2 t) (iblk m c 0 t) (iblk m c 1 t) (iblk m c 3 t)

/-- The first product of a tile and the 16 rows before it. -/
abbrev tileZ (c : Dev nD) (t : Fin cfg0.N) : FVec Ideal S528x1024 .f32 :=
  k0_pay5 (tileP m c t) (k0_pay4 (grid0.coords t))

theorem tile_agrees (c : Dev nD) (t : Fin cfg0.N) (r : Fin 512) :
    Agrees (tileZ m c t) r (rows m c ⟨t.val / 16, by have := lt_points t; omega⟩) ⟨t.val % 16 * 512 + r.val, by omega⟩ := by
  intro k hk p hp j j' hj
  obtain rfl : j = j' := Fin.ext hj
  have ht := lt_points t
  pointwise [k0_pay5]
  rw [halo_at, tileP, product_pay]
  simp only [iblk0_at, iblk1_at, iblk2_at, iblk3_at]
  by_cases h1 : p.val < 16
  · by_cases h2 : t.val % 16 = 0
    · rw [if_pos ⟨h2, h1⟩, mul_zero, prev, dif_neg (show ¬ k ≤ t.val % 16 * 512 + r.val by omega)]
    · rw [if_neg (fun q => h2 q.1), mul_one, prev, dif_pos (show k ≤ t.val % 16 * 512 + r.val by omega), dif_pos h1]
      have e : (⟨(t.val * 32 - 1) * 16 + p.val, by omega⟩ : Fin 16384)
          = ⟨t.val / 16 * 8192 + (t.val % 16 * 512 + r.val - k), by omega⟩ := Fin.ext (by first | omega | (dsimp only; omega))
      rw [e]
  · rw [if_neg (fun q => h1 q.2), mul_one, prev, dif_pos (show k ≤ t.val % 16 * 512 + r.val by omega), dif_neg h1]
    have e : (⟨t.val * 512 + (p.val - 16), by omega⟩ : Fin 16384)
        = ⟨t.val / 16 * 8192 + (t.val % 16 * 512 + r.val - k), by omega⟩ := Fin.ext (by first | omega | (dsimp only; omega))
    rw [e]

/-- The mixed and scaled row `r` of a tile. -/
abbrev tileMixed (c : Dev nD) (t : Fin cfg0.N) (r : Fin 512) : Fin 1024 → EReal :=
  mixed (rows m c ⟨t.val / 16, by have := lt_points t; omega⟩) (fun g k d => m ((c.tc : Thread nD τ).loc main_arg3) (ix3 g k d))
    (fun k => m ((c.tc : Thread nD τ).loc main_arg4) (ix1 k)) ⟨t.val % 16 * 512 + r.val, by omega⟩

/-- A tile's row, computed from the blocks, is the reference's row at its place. -/
theorem tile_row (c : Dev nD) (t : Fin cfg0.N) (r : Fin 512) (d : Fin 1024) :
    norm width1024 (residual (fun k => iblk m c 0 t (ix2 r k)) (fun k => iblk m c 2 t (ix3 0 2 k))
      (mulRow (tileMixed m c t r) fun c' d => iblk m c 6 t (ix2 c' d))) (fun d => iblk m c 7 t (ix2 0 d)) (fun d => iblk m c 8 t (ix2 0 d)) d
      = want m c (ix2 ⟨t.val * 512 + r.val, by have := lt_points t; omega⟩ d) := by
  have ht := lt_points t
  refine Eq.trans ?_ (Cert.Reference6Ideal.Pool.result_at _ _ _ _ _ _ _ _ _ _).symm
  have q1 : (t.val * 512 + r.val) / 8192 = t.val / 16 := by omega
  have q2 : (t.val * 512 + r.val) % 8192 = t.val % 16 * 512 + r.val := by omega
  simp only [tileMixed, iblk0_at, iblk2_at, iblk6_at, iblk7_at, iblk8_at, q1, q2]

/-- The start of the window of rows is the tile's first position. -/
theorem start_at (t : Fin cfg0.N) (r : Fin 512) : pos0 (BitVec.ofNat 32 (grid0.coords t 0).val)
    = BitVec.ofNat 32 ((⟨t.val % 16 * 512 + r.val, by omega⟩ : Fin 8192).val - r.val) :=
  (pos0_at t).trans (congrArg (BitVec.ofNat 32) (Nat.add_sub_cancel _ _).symm)

section groups

variable (c : Dev nD) (t : Fin cfg0.N) (r : Fin 512) (d : Fin 256) (j : Fin 1024) (g : Vec Ideal S1x256x256 .bf16) (l : Vec Ideal S1x256 .f32)

theorem group3 (hj : j.val = 768 + d.val) (hg : ∀ k, g (ix3 0 k d) = m ((c.tc : Thread nD τ).loc main_arg3) (ix3 3 k d))
    (hl : l (ix2 0 d) = m ((c.tc : Thread nD τ).loc main_arg4) (ix1 j)) :
    k0_pay13 (k0_pay6 (pos0 (BitVec.ofNat 32 (grid0.coords t 0).val))) (k0_pay11 (tileZ m c t)) (k0_pay12 (tileZ m c t)) g l (ix2 r d)
      = tileMixed m c t r j := by
  rw [stored3]
  exact piece (tileZ m c t) _ _ _ _ _ _ _ j _ _ _ _ 3 16 _ rfl bits16 (windows_double _ _ 8 (windows_double _ _ 4 (windows_double _ _ 2 (windows_double _ _ 1 (windows_one _)))))
    (tile_agrees m c t r) (fun p x => (part3_at _ p x)) (start_at t r) (Nat.le_add_left _ _) hg hl hj

theorem group2 (hj : j.val = 512 + d.val) (hg : ∀ k, g (ix3 0 k d) = m ((c.tc : Thread nD τ).loc main_arg3) (ix3 2 k d))
    (hl : l (ix2 0 d) = m ((c.tc : Thread nD τ).loc main_arg4) (ix1 j)) :
    k0_pay10 (tileZ m c t) (k0_pay6 (pos0 (BitVec.ofNat 32 (grid0.coords t 0).val))) g l (ix2 r d)
      = tileMixed m c t r j := by
  rw [stored2]
  exact piece (tileZ m c t) _ _ _ _ _ _ _ j _ _ _ _ 2 8 _ rfl bits8 (windows_double _ _ 4 (windows_double _ _ 2 (windows_double _ _ 1 (windows_one _))))
    (tile_agrees m c t r) (fun p x => (part2_at _ p x)) (start_at t r) (Nat.le_add_left _ _) hg hl hj

theorem group1 (hj : j.val = 256 + d.val) (hg : ∀ k, g (ix3 0 k d) = m ((c.tc : Thread nD τ).loc main_arg3) (ix3 1 k d))
    (hl : l (ix2 0 d) = m ((c.tc : Thread nD τ).loc main_arg4) (ix1 j)) :
    k0_pay9 (k0_pay8 (pos0 (BitVec.ofNat 32 (grid0.coords t 0).val)) (tileP m c t) (k0_pay4 (grid0.coords t))) g l (ix2 r d)
      = tileMixed m c t r j := by
  rw [stored1]
  exact piece (tileZ m c t) _ _ _ _ _ _ _ j _ _ _ _ 1 4 _ rfl bits4 (windows_double _ _ 2 (windows_double _ _ 1 (windows_one _)))
    (tile_agrees m c t r) (fun p x => (part1_at _ p x)) (start_at t r) (Nat.le_add_left _ _) hg hl hj

theorem group0 (hj : j.val = d.val) (hg : ∀ k, g (ix3 0 k d) = m ((c.tc : Thread nD τ).loc main_arg3) (ix3 0 k d))
    (hl : l (ix2 0 d) = m ((c.tc : Thread nD τ).loc main_arg4) (ix1 j)) :
    k0_pay7 (pos0 (BitVec.ofNat 32 (grid0.coords t 0).val)) (tileP m c t) (k0_pay4 (grid0.coords t)) g l (ix2 r d)
      = tileMixed m c t r j := by
  rw [stored0]
  exact piece (tileZ m c t) _ _ _ _ _ _ _ j _ _ _ _ 0 2 _ rfl bits2 (windows_double _ _ 1 (windows_one _))
    (tile_agrees m c t r) (fun p x => (part0_at _ p x).trans (congrArg (fun q => tileZ m c t (ix2 p q)) (Fin.ext (by simp)))) (start_at t r) (Nat.le_add_left _ _) hg hl (by simpa using hj)

end groups

/-- The array the kernel leaves is the reference's result. -/
theorem final (c : Dev nD) : (dats m 0 c).arrAt 9 (cfgs 0).N = want m c := by
  refine (dats m 0 c).arrAt_eq_of_covers 9 _ (by decide +kernel) fun t hf y => ?_
  blk_simp
  rw [after0_9]
  unfold outsAt0
  frame_out
  idx_vars y
  refine (out_norm _ _ _ _ _ _ _ _ (tileMixed m c t y0) (fun j => ?_)).trans ?_
  · rw [View.readCov_eq_canon']
    have e : (Rect.unit (s := S512x1024) ![0, 0] ![512, 1024] inb_S512x1024_S512x1024_0_0).toLoadRect.idx (ix2 y0 j) = ix2 y0 j := by
      funext k
      apply Fin.ext
      fin_cases k <;> simp [Rect.idx_unit_val]
    refine (congrArg (View.canon _) e).trans ?_
    canon_tiles x h
    · idx_vars x
      obtain rfl : y0 = x0 := Fin.ext h0
      refine group3 m c t y0 x1 j _ _ h1 (fun k => ?_) ?_
      · pointwise []
        exact iblk4_at m c t 3 _ _
      · pointwise []
        exact (iblk5_at m c t _).trans (congrArg (fun q => m ((c.tc : Thread nD τ).loc main_arg4) (ix1 q)) (Fin.ext h1.symm))
    · idx_vars x
      obtain rfl : y0 = x0 := Fin.ext h0
      refine group2 m c t y0 x1 j _ _ h1 (fun k => ?_) ?_
      · pointwise []
        exact iblk4_at m c t 2 _ _
      · pointwise []
        exact (iblk5_at m c t _).trans (congrArg (fun q => m ((c.tc : Thread nD τ).loc main_arg4) (ix1 q)) (Fin.ext h1.symm))
    · idx_vars x
      obtain rfl : y0 = x0 := Fin.ext h0
      refine group1 m c t y0 x1 j _ _ h1 (fun k => ?_) ?_
      · pointwise []
        exact iblk4_at m c t 1 _ _
      · pointwise []
        exact (iblk5_at m c t _).trans (congrArg (fun q => m ((c.tc : Thread nD τ).loc main_arg4) (ix1 q)) (Fin.ext h1.symm))
    · idx_vars x
      obtain rfl : y0 = x0 := Fin.ext h0
      refine group0 m c t y0 x1 j _ _ h1 (fun k => ?_) ?_
      · pointwise []
        exact iblk4_at m c t 0 _ _
      · pointwise []
        exact (iblk5_at m c t _).trans (congrArg (fun q => m ((c.tc : Thread nD τ).loc main_arg4) (ix1 q)) (Fin.ext h1.symm))
  · refine (tile_row m c t y0 y1).trans (congrArg (want m c) ?_)
    blk_ext [idx t]

end Cert.Kernel6Ideal.Pool
end
-- ==== Proof.lean ====
module

public import proofs.«01_k».proof.Defs
public import proofs.«01_k».proof.Proof.Gen.Kernel3.Skeleton
public import proofs.«01_k».proof.Proof.Gen.Kernel3.Launch
public import proofs.«01_k».proof.Proof.Gen.Kernel3Ideal.Skeleton
public import proofs.«01_k».proof.Proof.Gen.Kernel3Ideal.Launch
public import proofs.«01_k».proof.Proof.Gen.Kernel3Ideal
public import proofs.«01_k».proof.Proof.Gen.Kernel3
public import proofs.«01_k».proof.Proof.Gen.Reference3Ideal.Read
public import proofs.«01_k».proof.Proof.Gen.Pre_experts_named
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.GmlpKernel
public import proofs.«01_k».proof.Proof.DenseKernel
public import proofs.«01_k».proof.Proof.Gen.Reference3Ideal.Run
public import proofs.«01_k».proof.Proof.ExpertsBits.Words
public import proofs.«01_k».proof.Proof.ExpertsKernel
public import proofs.«01_k».proof.Proof.ProjectionKernel
public import proofs.«01_k».proof.Proof.CombineKernel
public import proofs.«01_k».proof.Proof.PoolKernel
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The gMLP mixer: kernel and reference end with equal results. -/
theorem gmlp : Cert.algebraic_KernelIdeal_ReferenceIdeal := by
  pair_intro
  · run_from Cert.KernelIdeal.Gen.run_main m g
  · run_from Cert.ReferenceIdeal.Value.run m' g'
    obtain ⟨h0, h1, h2, h3, h4, h5, h6, h7, h8, h9⟩ := hagree c
    rw [Cert.KernelIdeal.Gmlp.final m c, Cert.ReferenceIdeal.Read.val_main_v90_eq, h0, h1, h2, h3, h4, h5, h6, h7, h8, h9]

/-- The dense feed-forward layer: kernel and reference end with equal results. -/
theorem dense : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    rw [Cert.Kernel2Ideal.Dense.final m c, Cert.Reference2Ideal.Read.val_main_v47_eq, h0, h1, h2, h3, h4, h5]

/-! ## The integers that name experts -/

theorem andi_one (a b : BitVec 1) : IntOp.andi a b = 1#1 ↔ a = 1#1 ∧ b = 1#1 := by
  revert a b
  decide

theorem ofBool_one (p : Bool) : BitVec.ofBool p = 1#1 ↔ p = true := by
  cases p <;> decide

/-- A 32-bit integer from 0 to 7 is, read without sign, below 8. -/
theorem word_lt (w : BitVec 32) (h : IntOp.andi (IntOp.cmpi .sge w 0#32) (IntOp.cmpi .sle w 7#32) = 1#1) : w.toNat < 8 := by
  obtain ⟨h0, h7⟩ := (andi_one _ _).mp h
  have h0 : (0 : ℤ) ≤ w.toInt := of_decide_eq_true ((ofBool_one _).mp h0)
  have h7 : w.toInt ≤ 7 := of_decide_eq_true ((ofBool_one _).mp h7)
  rw [BitVec.toInt_eq_toNat_cond] at h0 h7
  have := w.isLt
  split at h0 <;> split at h7 <;> omega

/-- The precondition, read: every block names one of the eight experts. -/
theorem named_of_pre_bits (m : (ℓ : Loc Cert.Kernel3.nD Cert.Kernel3.τ Cert.Kernel3.sig) → Buf (Elt Bits) ℓ)
    (h : Cert.Pre_Kernel3 m) : Cert.Kernel3.Experts.Named m :=
  fun b => word_lt _ (congrFun (h 0) (ix1 b))

theorem named_of_pre (m : (ℓ : Loc Cert.Kernel3Ideal.nD Cert.Kernel3Ideal.τ Cert.Kernel3Ideal.sig) → Buf (Elt Ideal) ℓ)
    (h : Cert.Pre_Kernel3Ideal m) : Cert.Kernel3Ideal.Experts.Named m :=
  fun b => word_lt _ (congrFun (h 0) (ix1 b))

/-- The expert feed-forward layer: kernel and reference end with equal results. -/
theorem experts : Cert.algebraic_Kernel3Ideal_Reference3Ideal := by
  intro m g m' g' hpre hagree
  have hN := named_of_pre m hpre
  refine ⟨Cert.Kernel3Ideal.Experts.want m, Cert.Kernel3Ideal.Experts.run m hN g, ?_⟩
  refine (θ_run _ _ _).mono (fun _ h c => ⟨(h c).1.trans ?_, (h c).2⟩) (Cert.Reference3Ideal.Value.run m' g')
  obtain ⟨h0, h1, h2, h3, h4⟩ := hagree c
  rw [Cert.Reference3Ideal.Read.val_main_v28_eq, h0, h1, h2, h3, h4]

/-- The attention's output projection: kernel and reference end with equal results. -/
theorem projection : Cert.algebraic_Kernel4Ideal_Reference4Ideal := by
  pair_intro
  · run_from Cert.Kernel4Ideal.Gen.run_main m g
  · run_from Cert.Reference4Ideal.Value.run m' g'
    obtain ⟨h0, h1, h2, h3, h4, h5⟩ := hagree c
    rw [Cert.Kernel4Ideal.Projection.final m c, Cert.Reference4Ideal.Read.val_main_v36_eq, h0, h1, h2, h3, h4, h5]

/-- The combination of two experts' rows: kernel and reference end with equal results. -/
theorem combine : Cert.algebraic_Kernel5Ideal_Reference5Ideal := by
  pair_intro
  · run_from Cert.Kernel5Ideal.Gen.run_main m g
  · run_from Cert.Reference5Ideal.Value.run m' g'
    obtain ⟨h0, h1, h2, h3, h4, h5, h6⟩ := hagree c
    rw [Cert.Kernel5Ideal.Combine.final m c, Cert.Reference5Ideal.Read.val_main_v41_eq, h0, h1, h2, h3, h4, h5, h6]

/-- The pooling mixer: kernel and reference end with equal results. -/
theorem pool : Cert.algebraic_Kernel6Ideal_Reference6Ideal := by
  pair_intro
  · run_from Cert.Kernel6Ideal.Gen.run_main m g
  · refine (θ_run _ _ _).mono (fun _ h c => ⟨(h c).1.trans ?_, (h c).2⟩) (Cert.Reference6Ideal.Value.run m' g')
    obtain ⟨h0, h1, h2, h3, h4, h5, h6, h7⟩ := hagree c
    rw [Cert.Kernel6Ideal.Pool.final m c]
    refine (Cert.Reference6Ideal.Read.val_main_v165_eq (StableHlo.launchContents m' c)).trans ?_
    show Cert.Reference6Ideal.Read.val_main_v165 (F := Ideal)
      (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) = Cert.Kernel6Ideal.Pool.want m c
    rw [h0, h1, h2, h3, h4, h5, h6, h7]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_experts_named.Gen.facts,
  fun m ρ _ => Cert.Kernel.Gen.frame m ρ, fun m ρ _ => Cert.KernelIdeal.Gen.frame m ρ,
  fun m ρ _ => (θ_run _ _ _).mono (fun _ h => ⟨fun c => (h c).2, funext fun g => nomatch g⟩) (Cert.ReferenceIdeal.Value.run m ρ),
  fun m ρ _ => Cert.Kernel2.Gen.frame m ρ, fun m ρ _ => Cert.Kernel2Ideal.Gen.frame m ρ,
  fun m ρ _ => (θ_run _ _ _).mono (fun _ h => ⟨fun c => (h c).2, funext fun g => nomatch g⟩) (Cert.Reference2Ideal.Value.run m ρ),
  fun m ρ h => Cert.Kernel3.Experts.frame m ρ (Cert.Kernel3.Experts.ok_of_named m (named_of_pre_bits m h)),
  fun m ρ h => Cert.Kernel3Ideal.Experts.frame m ρ (Cert.Kernel3Ideal.Experts.ok_of_named m (named_of_pre m h)),
  fun m ρ _ => (θ_run _ _ _).mono (fun _ h => ⟨fun c => (h c).2, funext fun g => nomatch g⟩) (Cert.Reference3Ideal.Value.run m ρ),
  fun m ρ _ => (θ_run _ _ _).mono (fun _ h => ⟨fun c => (h c).2, funext fun g => nomatch g⟩) (Cert.Reference3Ideal.Value.run m ρ),
  fun m ρ _ => Cert.Kernel4.Gen.frame m ρ, fun m ρ _ => Cert.Kernel4Ideal.Gen.frame m ρ,
  fun m ρ _ => (θ_run _ _ _).mono (fun _ h => ⟨fun c => (h c).2, funext fun g => nomatch g⟩) (Cert.Reference4Ideal.Value.run m ρ),
  fun m ρ _ => Cert.Kernel5.Gen.frame m ρ, fun m ρ _ => Cert.Kernel5Ideal.Gen.frame m ρ,
  fun m ρ _ => (θ_run _ _ _).mono (fun _ h => ⟨fun c => (h c).2, funext fun g => nomatch g⟩) (Cert.Reference5Ideal.Value.run m ρ),
  fun m ρ _ => Cert.Kernel6.Gen.frame m ρ, fun m ρ _ => Cert.Kernel6Ideal.Gen.frame m ρ,
  fun m ρ _ => (θ_run _ _ _).mono (fun _ h => ⟨fun c => (h c).2, funext fun g => nomatch g⟩) (Cert.Reference6Ideal.Value.run m ρ),
  trivial, gmlp, trivial, dense, trivial, experts, trivial, projection, trivial, combine, trivial, pool⟩

end Cert.Proof

end
